-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2_2n" .f32 0x398DF4E0#32 (((1 / 2560) * (Real.log 2) : ℝ) : EReal)
  ∧ IdealRules.named_const.Statement Cert.KernelIdeal.κ "inv_2n" .f32 0x39CCCCCD#32 ((1 / 2560 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x256x2048 : Shape := ⟨3, ![5, 256, 2048]⟩
abbrev S5x256 : Shape := ⟨2, ![5, 256]⟩
abbrev S_ : Shape := ⟨0, ![]⟩
abbrev S1 : Shape := ⟨1, ![1]⟩
abbrev S1280x2048 : Shape := ⟨2, ![1280, 2048]⟩
abbrev S1280x1280 : Shape := ⟨2, ![1280, 1280]⟩
abbrev S1x128 : Shape := ⟨2, ![1, 128]⟩
abbrev S1x1 : Shape := ⟨2, ![1, 1]⟩
abbrev S1x256 : Shape := ⟨2, ![1, 256]⟩
abbrev S1x1280 : Shape := ⟨2, ![1, 1280]⟩
abbrev S256x2048 : Shape := ⟨2, ![256, 2048]⟩
abbrev S256x1280 : Shape := ⟨2, ![256, 1280]⟩
abbrev S128x128 : Shape := ⟨2, ![128, 128]⟩
abbrev S256x128 : Shape := ⟨2, ![256, 128]⟩
abbrev S256x1 : Shape := ⟨2, ![256, 1]⟩
abbrev S256 : Shape := ⟨1, ![256]⟩
abbrev S1280 : Shape := ⟨1, ![1280]⟩
abbrev S256x256 : Shape := ⟨2, ![256, 256]⟩
abbrev S1280x256 : Shape := ⟨2, ![1280, 256]⟩

abbrev nBuf : Space → Nat
  | .hbm => 12
  | .vmem => 10
  | .smem => 1
  | _ => 0

abbrev bufTy : (tb : Table) → Fin (tcTables nBuf tb) → BufTy
  | .hbm, ⟨0, _⟩ => ⟨S5x256x2048, .fp8e4m3⟩
  | .hbm, ⟨1, _⟩ => ⟨S5x256, .f32⟩
  | .hbm, ⟨2, _⟩ => ⟨S5x256x2048, .fp8e4m3⟩
  | .hbm, ⟨3, _⟩ => ⟨S5x256, .f32⟩
  | .hbm, ⟨4, _⟩ => ⟨S_, .f32⟩
  | .hbm, ⟨5, _⟩ => ⟨S1, .f32⟩
  | .hbm, ⟨6, _⟩ => ⟨S1280x2048, .fp8e4m3⟩
  | .hbm, ⟨7, _⟩ => ⟨S1280x2048, .fp8e4m3⟩
  | .hbm, ⟨8, _⟩ => ⟨S5x256, .f32⟩
  | .hbm, ⟨9, _⟩ => ⟨S1280x2048, .bf16⟩
  | .hbm, ⟨10, _⟩ => ⟨S1280x2048, .bf16⟩
  | .hbm, ⟨11, _⟩ => ⟨S5x256, .f32⟩
  | .local _ .vmem, ⟨0, _⟩ => ⟨S5x256, .f32⟩
  | .local _ .vmem, ⟨1, _⟩ => ⟨S5x256, .f32⟩
  | .local _ .vmem, ⟨2, _⟩ => ⟨S1280x2048, .fp8e4m3⟩
  | .local _ .vmem, ⟨3, _⟩ => ⟨S1280x2048, .fp8e4m3⟩
  | .local _ .vmem, ⟨4, _⟩ => ⟨S5x256, .f32⟩
  | .local _ .vmem, ⟨5, _⟩ => ⟨S1280x2048, .bf16⟩
  | .local _ .vmem, ⟨6, _⟩ => ⟨S1280x2048, .bf16⟩
  | .local _ .vmem, ⟨7, _⟩ => ⟨S5x256, .f32⟩
  | .local _ .vmem, ⟨8, _⟩ => ⟨S1280x1280, .f32⟩
  | .local _ .vmem, ⟨9, _⟩ => ⟨S1280x1280, .bf16⟩
  | .local _ .smem, ⟨0, _⟩ => ⟨S1, .f32⟩
  | _, _ => ⟨S5x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "inv_2n" => some ((1 / 2560 : ℝ) : EReal)
  | "ln2_2n" => some (((1 / 2560) * (Real.log 2) : ℝ) : EReal)
  | "log2e" => some (((Real.log 2)⁻¹ : ℝ) : EReal)
  | _ => none
-- ==== ReferenceIdeal.lean ====
abbrev S5x256x2048 : Shape := ⟨3, ![5, 256, 2048]⟩
abbrev S5x256 : Shape := ⟨2, ![5, 256]⟩
abbrev S_ : Shape := ⟨0, ![]⟩
abbrev S1x1 : Shape := ⟨2, ![1, 1]⟩
abbrev S1280x1 : Shape := ⟨2, ![1280, 1]⟩
abbrev S1x1280 : Shape := ⟨2, ![1, 1280]⟩
abbrev S1280x2048 : Shape := ⟨2, ![1280, 2048]⟩
abbrev S1280x1280 : Shape := ⟨2, ![1280, 1280]⟩
abbrev S1280 : Shape := ⟨1, ![1280]⟩

abbrev nBuf : Space → Nat
  | .hbm => 14
  | .vmem => 9
  | .smem => 0
  | _ => 0

abbrev bufTy : (tb : Table) → Fin (tcTables nBuf tb) → BufTy
  | .hbm, ⟨0, _⟩ => ⟨S5x256x2048, .fp8e4m3⟩
  | .hbm, ⟨1, _⟩ => ⟨S5x256, .f32⟩
  | .hbm, ⟨2, _⟩ => ⟨S5x256x2048, .fp8e4m3⟩
  | .hbm, ⟨3, _⟩ => ⟨S5x256, .f32⟩
  | .hbm, ⟨4, _⟩ => ⟨S_, .f32⟩
  | .hbm, ⟨5, _⟩ => ⟨S1x1, .f32⟩
  | .hbm, ⟨6, _⟩ => ⟨S1280x1, .f32⟩
  | .hbm, ⟨7, _⟩ => ⟨S1x1280, .f32⟩
  | .hbm, ⟨8, _⟩ => ⟨S1280x2048, .fp8e4m3⟩
  | .hbm, ⟨9, _⟩ => ⟨S1280x2048, .fp8e4m3⟩
  | .hbm, ⟨10, _⟩ => ⟨S5x256, .f32⟩
  | .hbm, ⟨11, _⟩ => ⟨S1280x2048, .bf16⟩
  | .hbm, ⟨12, _⟩ => ⟨S1280x2048, .bf16⟩
  | .hbm, ⟨13, _⟩ => ⟨S5x256, .f32⟩
  | .local _ .vmem, ⟨0, _⟩ => ⟨S1x1, .f32⟩
  | .local _ .vmem, ⟨1, _⟩ => ⟨S1280x1, .f32⟩
  | .local _ .vmem, ⟨2, _⟩ => ⟨S1x1280, .f32⟩
  | .local _ .vmem, ⟨3, _⟩ => ⟨S1280x2048, .fp8e4m3⟩
  | .local _ .vmem, ⟨4, _⟩ => ⟨S1280x2048, .fp8e4m3⟩
  | .local _ .vmem, ⟨5, _⟩ => ⟨S5x256, .f32⟩
  | .local _ .vmem, ⟨6, _⟩ => ⟨S1280x2048, .bf16⟩
  | .local _ .vmem, ⟨7, _⟩ => ⟨S1280x2048, .bf16⟩
  | .local _ .vmem, ⟨8, _⟩ => ⟨S5x256, .f32⟩
  | _, _ => ⟨S5x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "inv_2n" => some ((1 / 2560 : ℝ) : EReal)
  | _ => none

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Math.lean ====
/- The mathematics of the certificate, over the extended reals and with no mention of either program: a soft-max written
   with base-two exponentials against the natural one, and the column sums of blocks put together. -/
module

public import Idealize.ShloMosaic.PureOps.Ideal

@[expose] public section

noncomputable section

namespace Cert.Math

open Idealize.ShloMosaic

/-- The largest value of a finite family, `⊥` for none. -/
def mx {n : ℕ} (f : Fin n → EReal) : EReal := Finset.univ.fold max ⊥ f

/-- The factor `1 / log 2` that turns natural units into base-two units. -/
def C : EReal := (((Real.log 2)⁻¹ : ℝ) : EReal)

/-- The factor `1 / 2560` of the mean. -/
def K1 : EReal := ((1 / 2560 : ℝ) : EReal)

/-- The factor `(1 / 2560) · log 2`: the mean, and base-two units turned back into natural ones. -/
def K2 : EReal := (((1 / 2560) * (Real.log 2) : ℝ) : EReal)

/-- `log 2` is positive. -/
theorem log2_pos : (0 : ℝ) < Real.log 2 := Real.log_pos (by norm_num)

/-- The factor into base-two units is not negative. -/
theorem C_nonneg : 0 ≤ C := EReal.coe_nonneg.mpr (inv_nonneg.mpr log2_pos.le)

/-- The factor into base-two units is finite. -/
theorem C_ne_top : C ≠ ⊤ := EReal.coe_ne_top _

/-- The factor of the mean is not negative. -/
theorem K1_nonneg : 0 ≤ K1 := EReal.coe_nonneg.mpr (by norm_num)

/-- The factor of the mean is finite. -/
theorem K1_ne_top : K1 ≠ ⊤ := EReal.coe_ne_top _

/-- The two changes of units undo one another. -/
theorem C_mul_K2 : C * K2 = K1 := by
  unfold C K2 K1
  rw [← EReal.coe_mul]
  congr 1
  field_simp [log2_pos.ne']

/-- A factor that is not negative and not infinite distributes over a sum of two. -/
theorem add_mul' {k : EReal} (h0 : 0 ≤ k) (ht : k ≠ ⊤) (a b : EReal) : (a + b) * k = a * k + b * k :=
  EReal.right_distrib_of_nonneg_of_ne_top h0 ht a b

/-- … over a difference … -/
theorem sub_mul' {k : EReal} (h0 : 0 ≤ k) (ht : k ≠ ⊤) (a b : EReal) : (a - b) * k = a * k - b * k := by
  rw [sub_eq_add_neg, add_mul' h0 ht, EReal.neg_mul, ← sub_eq_add_neg]

/-- … and over a finite sum. -/
theorem sum_mul' {k : EReal} (h0 : 0 ≤ k) (ht : k ≠ ⊤) {ι : Type} (s : Finset ι) (f : ι → EReal) :
    (∑ i ∈ s, f i) * k = ∑ i ∈ s, f i * k := by
  classical
  induction s using Finset.induction_on with
  | empty => simp
  | insert a s ha ih => rw [Finset.sum_insert ha, Finset.sum_insert ha, add_mul' h0 ht, ih]

/-- The largest value as a supremum. -/
theorem mx_eq_sup {n : ℕ} (f : Fin n → EReal) : mx f = Finset.univ.sup f := rfl

/-- No value exceeds the largest. -/
theorem le_mx {n : ℕ} (f : Fin n → EReal) (i : Fin n) : f i ≤ mx f :=
  mx_eq_sup f ▸ Finset.le_sup (Finset.mem_univ i)

/-- A factor that is not negative scales the largest value of a non-empty family. -/
theorem mx_mul {n : ℕ} [NeZero n] {k : EReal} (h0 : 0 ≤ k) (f : Fin n → EReal) : mx (fun i => f i * k) = mx f * k := by
  apply le_antisymm
  · rw [mx_eq_sup]
    exact Finset.sup_le fun i _ => mul_le_mul_of_nonneg_right (le_mx f i) h0
  · obtain ⟨i, _, hi⟩ := Finset.exists_mem_eq_sup Finset.univ ⟨0, Finset.mem_univ _⟩ f
    rw [mx_eq_sup f, hi]
    exact le_mx (fun i => f i * k) i

/-- `2` to the power `z / log 2` is `e` to the power `z`, infinities included. -/
theorem exp2_mul_C (z : EReal) : Ideal.exp2 (z * C) = Ideal.exp z := by
  have hC : (0 : ℝ) < (Real.log 2)⁻¹ := inv_pos.mpr log2_pos
  induction z using EReal.rec with
  | bot => rw [C, EReal.bot_mul_coe_of_pos hC]; rfl
  | top => rw [C, EReal.top_mul_coe_of_pos hC]; rfl
  | coe r =>
    rw [C, ← EReal.coe_mul, Ideal.exp2_coe, Ideal.exp_coe]
    congr 1
    show (2 : ℝ) ^ (r * (Real.log 2)⁻¹) = _
    rw [Real.rpow_def_of_pos (by norm_num)]
    congr 1
    field_simp [log2_pos.ne']

/-- A base-two exponential is not negative. -/
theorem exp2_nonneg (z : EReal) : 0 ≤ Ideal.exp2 z := by
  induction z using EReal.rec with
  | bot => exact le_refl _
  | top => exact le_top
  | coe r => exact EReal.coe_nonneg.mpr (Real.rpow_nonneg (by norm_num) r)

/-- A difference from something at least as large, `⊥ - ⊥ = ⊤ - ⊤ = ⊥` included, has a finite exponential. -/
theorem exp2_sub_ne_top {m M : EReal} (h : m ≤ M) : Ideal.exp2 (m - M) ≠ ⊤ := by
  induction M using EReal.rec with
  | bot => rw [le_bot_iff.mp h]; simp
  | top => simp
  | coe R =>
    induction m using EReal.rec with
    | bot => simp
    | top => exact absurd h (by simp)
    | coe r => rw [← EReal.coe_sub, Ideal.exp2_coe]; exact EReal.coe_ne_top _

/-- Moving a shifted exponential from one shift to a larger one. -/
theorem exp2_sub_mul {a m M : EReal} (h1 : a ≤ m) (h2 : m ≤ M) :
    Ideal.exp2 (a - m) * Ideal.exp2 (m - M) = Ideal.exp2 (a - M) := by
  induction M using EReal.rec with
  | bot =>
    obtain rfl := le_bot_iff.mp h2
    obtain rfl := le_bot_iff.mp h1
    simp
  | top => simp
  | coe R =>
    induction m using EReal.rec with
    | top => exact absurd h2 (by simp)
    | bot =>
      obtain rfl := le_bot_iff.mp h1
      simp
    | coe r =>
      induction a using EReal.rec with
      | top => exact absurd h1 (by simp)
      | bot => simp
      | coe x =>
        rw [← EReal.coe_sub, ← EReal.coe_sub, ← EReal.coe_sub, Ideal.exp2_coe, Ideal.exp2_coe, Ideal.exp2_coe,
          ← EReal.coe_mul]
        congr 1
        show (2 : ℝ) ^ (x - r) * (2 : ℝ) ^ (r - R) = (2 : ℝ) ^ (x - R)
        rw [← Real.rpow_add (by norm_num)]
        congr 1
        ring

/-- A block's sum of exponentials, moved from the block's own shift to a larger one. -/
theorem sum_exp2_sub_mul {n : ℕ} (f : Fin n → EReal) {M : EReal} (h : mx f ≤ M) :
    (∑ r, Ideal.exp2 (f r - mx f)) * Ideal.exp2 (mx f - M) = ∑ r, Ideal.exp2 (f r - M) := by
  rw [sum_mul' (exp2_nonneg _) (exp2_sub_ne_top h)]
  exact Finset.sum_congr rfl fun r _ => exp2_sub_mul (le_mx f r) h

/-! ## Rows cut into five blocks -/

/-- Row `r` of block `b`, as a row of the whole. -/
def gi (b : Fin 5) (r : Fin 256) : Fin 1280 := ⟨256 * b.val + r.val, by omega⟩

/-- Every row is a row of some block. -/
theorem gi_div_mod (i : Fin 1280) : gi ⟨i.val / 256, by omega⟩ ⟨i.val % 256, by omega⟩ = i :=
  Fin.ext (Nat.div_add_mod _ _)

/-- A sum over all rows is the sum of the five blocks' sums. -/
theorem sum_blocks (g : Fin 1280 → EReal) : ∑ i, g i = ∑ b : Fin 5, ∑ r : Fin 256, g (gi b r) := by
  rw [← Fintype.sum_prod_type' fun b r => g (gi b r)]
  refine (Fintype.sum_equiv (finProdFinEquiv (m := 5) (n := 256)) _ _ fun p => ?_).symm
  congr 1
  exact Fin.ext (Nat.add_comm _ _)

/-- The largest of the five blocks' largest values, taken one block after the other. -/
def mxBlocks (f : Fin 1280 → EReal) : EReal :=
  max (max (max (max (mx fun r => f (gi 0 r)) (mx fun r => f (gi 1 r))) (mx fun r => f (gi 2 r)))
    (mx fun r => f (gi 3 r))) (mx fun r => f (gi 4 r))

/-- A block's largest value is at most the largest of all blocks'. -/
theorem mx_le_mxBlocks (f : Fin 1280 → EReal) (b : Fin 5) : (mx fun r => f (gi b r)) ≤ mxBlocks f := by
  unfold mxBlocks
  fin_cases b <;> simp only [Fin.zero_eta, Fin.mk_one, Fin.reduceFinMk, le_max_iff, le_refl, true_or, or_true]

/-- It is the largest value of all rows. -/
theorem mxBlocks_eq (f : Fin 1280 → EReal) : mxBlocks f = mx f := by
  apply le_antisymm
  · have h (b : Fin 5) : (mx fun r => f (gi b r)) ≤ mx f := by
      rw [mx_eq_sup fun r => f (gi b r)]
      exact Finset.sup_le fun r _ => le_mx f _
    exact max_le (max_le (max_le (max_le (h 0) (h 1)) (h 2)) (h 3)) (h 4)
  · rw [mx_eq_sup]
    refine Finset.sup_le fun i _ => ?_
    rw [← gi_div_mod i]
    exact (le_mx (fun r => f (gi _ r)) _).trans (mx_le_mxBlocks f _)

/-- One block's sum of exponentials about the block's own largest value. -/
def csum (f : Fin 1280 → EReal) (b : Fin 5) : EReal := ∑ r, Ideal.exp2 (f (gi b r) - mx fun r => f (gi b r))

/-- The five blocks' sums of exponentials put together about the largest value of all. -/
def sumBlocks (f : Fin 1280 → EReal) : EReal :=
  csum f 0 * Ideal.exp2 ((mx fun r => f (gi 0 r)) - mxBlocks f) + csum f 1 * Ideal.exp2 ((mx fun r => f (gi 1 r)) - mxBlocks f)
    + csum f 2 * Ideal.exp2 ((mx fun r => f (gi 2 r)) - mxBlocks f)
    + csum f 3 * Ideal.exp2 ((mx fun r => f (gi 3 r)) - mxBlocks f)
    + csum f 4 * Ideal.exp2 ((mx fun r => f (gi 4 r)) - mxBlocks f)

/-- They are the sum over all rows. -/
theorem sumBlocks_eq (f : Fin 1280 → EReal) : sumBlocks f = ∑ i, Ideal.exp2 (f i - mx f) := by
  have h (b : Fin 5) : csum f b * Ideal.exp2 ((mx fun r => f (gi b r)) - mxBlocks f)
      = ∑ r, Ideal.exp2 (f (gi b r) - mxBlocks f) :=
    sum_exp2_sub_mul (fun r => f (gi b r)) (mx_le_mxBlocks f b)
  unfold sumBlocks
  rw [h 0, h 1, h 2, h 3, h 4, mxBlocks_eq, sum_blocks, Fin.sum_univ_five]

/-! ## The logarithm of a sum of exponentials -/

/-- The natural log-sum-exp, about the largest value. -/
def lse {n : ℕ} (f : Fin n → EReal) : EReal := mx f + Ideal.log (∑ i, Ideal.exp (f i - mx f))

/-- The base-two log-sum-exp, about the largest value; its logarithm is the natural one in base-two units. -/
def lse2 {n : ℕ} (f : Fin n → EReal) : EReal := mx f + Ideal.log (∑ i, Ideal.exp2 (f i - mx f)) * C

/-- The base-two log-sum-exp of values in base-two units is the natural log-sum-exp in base-two units. -/
theorem lse2_mul_C {n : ℕ} [NeZero n] (f : Fin n → EReal) : lse2 (fun i => f i * C) = lse f * C := by
  unfold lse2 lse
  rw [mx_mul C_nonneg, add_mul' C_nonneg C_ne_top]
  congr 3
  refine Finset.sum_congr rfl fun i _ => ?_
  rw [← sub_mul' C_nonneg C_ne_top, exp2_mul_C]

/-- The base-two log-sum-exp of a column, from its five blocks. -/
def lse2Blocks (f : Fin 1280 → EReal) : EReal := mxBlocks f + Ideal.log (sumBlocks f) * C

/-- Put together from its five blocks, the base-two log-sum-exp of a column is that of the whole column. -/
theorem lse2Blocks_eq (f : Fin 1280 → EReal) : lse2Blocks f = lse2 f := by
  unfold lse2Blocks lse2
  rw [mxBlocks_eq, sumBlocks_eq]

end Cert.Math

end
-- ==== Proof.Loss.lean ====
/- What the kernel computes and what the reference computes, entry by entry over the extended reals, and that the two are
   the same. Names that end in `K` are the kernel's: its logits are in base-two units, its column sums are put together
   from five blocks of rows, and the factors are applied in its own order. Names that end in `R` are the reference's. -/
module

public import proofs.«01_k».proof.Proof.Math

@[expose] public section

noncomputable section

namespace Cert.Math

open Idealize.ShloMosaic

variable (T : EReal) (xs ys : Fin 1280 → EReal) (X Y : Fin 1280 → Fin 2048 → EReal)

/-- Row `i` of all the rows, where the rows come in five blocks of 256. -/
def flat {α : Type} (a : Fin 5 → Fin 256 → α) (i : Fin 1280) : α := a ⟨i.val / 256, by omega⟩ ⟨i.val % 256, by omega⟩

/-- The products of the codes: entry `(i, j)` is the product of row `i` of `X` and row `j` of `Y`. -/
def acc (i j : Fin 1280) : EReal := ∑ k, X i k * Y j k

/-- `2` on the diagonal, `0` off it. -/
def pos (i j : Fin 1280) : EReal := if j = i then Ideal.ofBits .f32 0x40000000#32 else 0

/-! ## The reference -/

/-- The logits: temperature times scores. -/
def logitR (i j : Fin 1280) : EReal := T * (acc X Y i j * xs i * ys j)

/-- Twice the batch size times the gradient of the loss with respect to the logits. -/
def gradR (i j : Fin 1280) : EReal :=
  Ideal.exp (logitR T xs ys X Y i j - lse (logitR T xs ys X Y i))
    + Ideal.exp (logitR T xs ys X Y i j - lse fun i' => logitR T xs ys X Y i' j) - pos i j

/-- The loss of row `i`. -/
def lossR (i : Fin 1280) : EReal :=
  ((lse (logitR T xs ys X Y i) - logitR T xs ys X Y i i) + ((lse fun i' => logitR T xs ys X Y i' i) - logitR T xs ys X Y i i)) * K1

/-- Row `i` of the gradient with respect to the logarithm of the temperature. -/
def dltR (i : Fin 1280) : EReal := ∑ j, gradR T xs ys X Y i j * K1 * logitR T xs ys X Y i j

/-- The gradient with respect to the codes `X`. -/
def dxR (i : Fin 1280) (d : Fin 2048) : EReal := ∑ j, T * (gradR T xs ys X Y i j * K1) * ys j * Y j d

/-- The gradient with respect to the codes `Y`. -/
def dyR (j : Fin 1280) (d : Fin 2048) : EReal := ∑ i, T * (gradR T xs ys X Y i j * K1) * xs i * X i d

/-! ## The kernel -/

/-- The logits in base-two units. -/
def logitK (i j : Fin 1280) : EReal := acc X Y i j * (xs i * (T * C)) * ys j

/-- What the kernel's second pass takes of a matrix of logits in base-two units. -/
def gradK (f : Fin 1280 → Fin 1280 → EReal) (i j : Fin 1280) : EReal :=
  Ideal.exp2 (f i j - lse2 (f i)) + Ideal.exp2 (f i j - lse2Blocks fun i' => f i' j) - pos i j

/-- The loss of row `i`. -/
def lossK (f : Fin 1280 → Fin 1280 → EReal) (i : Fin 1280) : EReal :=
  ((lse2 (f i) - f i i) + ((lse2Blocks fun i' => f i' i) - f i i)) * K2

/-- Row `i` of the gradient with respect to the logarithm of the temperature. -/
def dltK (f : Fin 1280 → Fin 1280 → EReal) (i : Fin 1280) : EReal := (∑ j, gradK f i j * f i j) * K2

/-- The left operand of the product that gives the gradient with respect to `X`. -/
def axK (f : Fin 1280 → Fin 1280 → EReal) (i j : Fin 1280) : EReal := gradK f i j * (ys j * (T * K1))

/-- The left operand, transposed, of the product that gives the gradient with respect to `Y`. -/
def ayK (f : Fin 1280 → Fin 1280 → EReal) (i j : Fin 1280) : EReal := gradK f i j * (xs i * (T * K1))

/-- The gradient with respect to the codes `X`. -/
def dxK (f : Fin 1280 → Fin 1280 → EReal) (i : Fin 1280) (d : Fin 2048) : EReal := ∑ j, axK T ys f i j * Y j d

/-- The gradient with respect to the codes `Y`. -/
def dyK (f : Fin 1280 → Fin 1280 → EReal) (j : Fin 1280) (d : Fin 2048) : EReal := ∑ i, ayK T xs f i j * X i d

/-! ## They are the same -/

/-- The kernel's logits are the reference's in base-two units. -/
theorem logitK_eq : logitK T xs ys X Y = fun i j => logitR T xs ys X Y i j * C := by
  funext i j
  unfold logitK logitR
  ac_rfl

/-- The kernel's row log-sum-exp is the reference's in base-two units. -/
theorem rowK_eq (i : Fin 1280) : lse2 (logitK T xs ys X Y i) = lse (logitR T xs ys X Y i) * C := by
  rw [logitK_eq, lse2_mul_C]

/-- The kernel's column log-sum-exp is the reference's in base-two units. -/
theorem colK_eq (j : Fin 1280) :
    (lse2Blocks fun i => logitK T xs ys X Y i j) = (lse fun i => logitR T xs ys X Y i j) * C := by
  rw [lse2Blocks_eq, logitK_eq, lse2_mul_C]

/-- The gradients with respect to the logits agree, before any factor. -/
theorem gradK_eq (i j : Fin 1280) : gradK (logitK T xs ys X Y) i j = gradR T xs ys X Y i j := by
  unfold gradK gradR
  rw [rowK_eq, colK_eq, logitK_eq, ← sub_mul' C_nonneg C_ne_top, ← sub_mul' C_nonneg C_ne_top, exp2_mul_C, exp2_mul_C]

/-- The loss rows agree. -/
theorem lossK_eq (i : Fin 1280) : lossK (logitK T xs ys X Y) i = lossR T xs ys X Y i := by
  unfold lossK lossR
  rw [rowK_eq, colK_eq, logitK_eq, ← sub_mul' C_nonneg C_ne_top, ← sub_mul' C_nonneg C_ne_top,
    ← add_mul' C_nonneg C_ne_top, mul_assoc, C_mul_K2]

/-- The rows of the gradient with respect to the logarithm of the temperature agree. -/
theorem dltK_eq (i : Fin 1280) : dltK (logitK T xs ys X Y) i = dltR T xs ys X Y i := by
  unfold dltK dltR
  have h (j : Fin 1280) : gradK (logitK T xs ys X Y) i j * logitK T xs ys X Y i j
      = gradR T xs ys X Y i j * logitR T xs ys X Y i j * C := by
    rw [gradK_eq, logitK_eq, mul_assoc]
  rw [Finset.sum_congr rfl fun j _ => h j, ← sum_mul' C_nonneg C_ne_top, mul_assoc, C_mul_K2, sum_mul' K1_nonneg K1_ne_top]
  exact Finset.sum_congr rfl fun j _ => by ac_rfl

/-- The gradients with respect to `X` agree. -/
theorem dxK_eq (i : Fin 1280) (d : Fin 2048) : dxK T ys Y (logitK T xs ys X Y) i d = dxR T xs ys X Y i d := by
  unfold dxK dxR axK
  exact Finset.sum_congr rfl fun j _ => by rw [gradK_eq]; ac_rfl

/-- The gradients with respect to `Y` agree. -/
theorem dyK_eq (j : Fin 1280) (d : Fin 2048) : dyK T xs X (logitK T xs ys X Y) j d = dyR T xs ys X Y j d := by
  unfold dyK dyR ayK
  exact Finset.sum_congr rfl fun i _ => by rw [gradK_eq]; ac_rfl

end Cert.Math

end
-- ==== Proof.Blocks.lean ====
/- What one block of rows computes in the kernel: each step of the body, at the operands of block `b` of whole arrays, gives
   block `b` of a whole array. -/
module

public import proofs.«01_k».proof.Proof.Loss
public import proofs.«01_k».proof.Proof.Gen.KernelIdeal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Value

open Cert.KernelIdeal Cert.KernelIdeal.Gen Cert.Math Idealize.ShloMosaic

/-! ## The values of a block, as parts of whole arrays -/

/-- Block `b` of a whole row of numbers, as a row. -/
def rowV (f : Fin 1280 → EReal) (b : Fin 5) : FVec Ideal S1x256 .f32 := fun j => f (gi b (j 1))
/-- Block `b` of a whole row of numbers, as a column. -/
def colV (f : Fin 1280 → EReal) (b : Fin 5) : FVec Ideal S256x1 .f32 := fun j => f (gi b (j 0))
/-- A whole row of numbers. -/
def allV (f : Fin 1280 → EReal) : FVec Ideal S1x1280 .f32 := fun j => f (j 1)
/-- The rows of block `b` of a matrix. -/
def matV (f : Fin 1280 → Fin 1280 → EReal) (b : Fin 5) : FVec Ideal S256x1280 .f32 := fun j => f (gi b (j 0)) (j 1)
/-- The square of a matrix at rows and columns of block `b`. -/
def sqV (f : Fin 1280 → Fin 1280 → EReal) (b : Fin 5) : FVec Ideal S256x256 .f32 := fun j => f (gi b (j 0)) (gi b (j 1))
/-- The same rows, in the narrow format. -/
def narrowV (f : Fin 1280 → Fin 1280 → EReal) (b : Fin 5) : FVec Ideal S256x1280 .bf16 := fun j => f (gi b (j 0)) (j 1)
/-- The columns of block `b` of a matrix, in the narrow format. -/
def narrowColsV (f : Fin 1280 → Fin 1280 → EReal) (b : Fin 5) : FVec Ideal S1280x256 .bf16 := fun j => f (j 0) (gi b (j 1))
/-- The rows of block `b` of the codes. -/
def codeV (X : Fin 1280 → Fin 2048 → EReal) (b : Fin 5) : FVec Ideal S256x2048 .fp8e4m3 := fun j => X (gi b (j 0)) (j 1)
/-- All the codes. -/
def codesV (X : Fin 1280 → Fin 2048 → EReal) : FVec Ideal S1280x2048 .fp8e4m3 := fun j => X (j 0) (j 1)
/-- The rows of block `b` of a gradient. -/
def outV (f : Fin 1280 → Fin 2048 → EReal) (b : Fin 5) : FVec Ideal S256x2048 .bf16 := fun j => f (gi b (j 0)) (j 1)
/-- One number. -/
def tV (T : EReal) : FVec Ideal S1x1 .f32 := fun _ => T

/-! ## The named constants -/

/-- The constant named `log2e` is the factor into base-two units. -/
theorem log2e_eq : (Named.named (F := Ideal) κ "log2e" 0x3FB8AA3B#32 : Ideal .f32) = C :=
  IdealRules.named_const.ideal_named_scalar κ _ _ _ rfl
/-- The constant named `inv_2n` is the factor of the mean. -/
theorem inv_2n_eq : (Named.named (F := Ideal) κ "inv_2n" 0x39CCCCCD#32 : Ideal .f32) = K1 :=
  IdealRules.named_const.ideal_named_scalar κ _ _ _ rfl
/-- The constant named `ln2_2n` is the factor of the mean, and back from base-two units. -/
theorem ln2_2n_eq : (Named.named (F := Ideal) κ "ln2_2n" 0x398DF4E0#32 : Ideal .f32) = K2 :=
  IdealRules.named_const.ideal_named_scalar κ _ _ _ rfl

/-- The word that a largest value starts from. -/
theorem ninf_eq : Ideal.ofBits .f32 0xFF800000#32 = ⊥ := by
  simp [Ideal.ofBits, Ideal.ieee]

/-- A choice on the equality of two index words is the choice on the equality of the indices. -/
theorem select_eq (a b : ℕ) (ha : a < 2 ^ 32) (hb : b < 2 ^ 32) (x y : EReal) :
    Scalar.select (IntOp.cmpi .eq (BitVec.ofNat 32 a) (BitVec.ofNat 32 b)) x y = if a = b then x else y := by
  rw [WordCmp.cmpi_eq_ofNat ha hb, WordCmp.select_decide]

variable (T : EReal) (xs ys : Fin 1280 → EReal) (X Y : Fin 1280 → Fin 2048 → EReal) (f : Fin 1280 → Fin 1280 → EReal)

/-- The second half of a block, counted from the block's start, is the block's own row. -/
theorem half_eq (r : Fin 256) (h : ¬ r.val < 128) (h') : (⟨128 + (r.val - 128), h'⟩ : Fin 256) = r := Fin.ext (by simp only; omega)

/-- The temperature is the exponential of its logarithm. -/
theorem temp_eq (a : Ideal .f32) : k0_pay4 a = tV (Ideal.exp a) := by
  funext j
  pointwise [k0_pay4, tV]

/-- The five blocks of scales side by side are the whole row of scales. -/
theorem scales_eq : k0_pay5 (rowV ys 0) (rowV ys 1) (rowV ys 2) (rowV ys 3) (rowV ys 4) = allV ys := by
  funext j
  idx_vars j
  pointwise [k0_pay5, rowV, allV, gi]
  split_ifs <;> first | rfl | exact congrArg ys (Fin.ext (by simp only; omega))

/-- The logits of a block of rows, in base-two units. -/
theorem logits_blk (b : Fin 5) :
    k0_pay37 (tV T) (allV ys) (codeV X b) (codesV Y) (rowV xs b) = matV (logitK T xs ys X Y) b := by
  funext j
  idx_vars j
  pointwise [k0_pay37, tV, allV, codeV, codesV, rowV, matV, logitK, acc]
  rw [log2e_eq]
  split_ifs <;> first | rfl | simp only [half_eq _ ‹_›]

/-- The row log-sum-exps of a block, in base-two units. -/
theorem rl_blk (b : Fin 5) :
    k0_pay8 (matV f b) = colV (fun i => lse2 (f i)) b := by
  funext j
  idx_vars j
  pointwise [k0_pay8, colV, matV, lse2, mx]
  rw [ninf_eq, log2e_eq]
  rfl

/-- The largest value of each column of a block. -/
theorem cm_blk (b : Fin 5) :
    k0_pay9 (matV f b) = allV (fun j => mx fun r => f (gi b r) j) := by
  funext j
  idx_vars j
  pointwise [k0_pay9, allV, matV, lse2, mx]
  rw [ninf_eq]

/-- The sum of the exponentials of each column of a block, about the largest value of the block. -/
theorem cs_blk (b : Fin 5) :
    k0_pay10 (matV f b) = allV (fun j => csum (fun i => f i j) b) := by
  funext j
  idx_vars j
  pointwise [k0_pay10, k0_pay9, allV, matV, csum, mx]
  rw [ninf_eq]
  rfl

/-- The column log-sum-exp from the five blocks' largest values and sums. -/
theorem cl_all :
    k0_pay42 (allV fun j => mx fun r => f (gi 0 r) j) (allV fun j => csum (fun i => f i j) 0)
      (allV fun j => mx fun r => f (gi 1 r) j) (allV fun j => csum (fun i => f i j) 1)
      (allV fun j => mx fun r => f (gi 2 r) j) (allV fun j => csum (fun i => f i j) 2)
      (allV fun j => mx fun r => f (gi 3 r) j) (allV fun j => csum (fun i => f i j) 3)
      (matV f 4) (allV fun j => mx fun r => f (gi 4 r) j)
    = allV fun j => lse2Blocks fun i => f i j := by
  funext j
  idx_vars j
  pointwise [k0_pay42, allV, matV]
  rw [log2e_eq]
  rfl

/-- The diagonal entries of a square: the sum of each column with everything off the diagonal set to zero. -/
def diagT (s : FVec Ideal S256x256 .f32) : FVec Ideal S1x256 .f32 :=
  k0_pay36 k0_pay34 s (Scalar.ofBits (F := Ideal) .f32 0x00000000#32)

/-- The diagonal entries of a block, as a row. -/
theorem diag_blk (b : Fin 5) : diagT (sqV f b) = rowV (fun i => f i i) b := by
  funext j
  idx_vars j
  pointwise [diagT, k0_pay36, k0_pay34, sqV, rowV]
  rw [Finset.sum_eq_single j1]
  · rw [select_eq _ _ (by omega) (by omega), if_pos rfl]
  · intro r _ hr
    rw [select_eq _ _ (by omega) (by omega), if_neg fun h => hr (Fin.ext h)]
  · exact fun h => absurd (Finset.mem_univ _) h

/-- The square of columns cut out of a block of rows. -/
theorem slice_blk (b : Fin 5) (o : ℕ) (ho : o = 256 * b.val) (h : S256x1280.Slices ![0, o] S256x256) :
    extractStridedSlice S256x256 ![0, o] (matV f b) h = sqV f b := by
  funext j
  idx_vars j
  pointwise [matV, sqV]
  subst ho
  rfl

/-- A block cut out of a whole row. -/
theorem cut_all (b : Fin 5) (g : Fin 1280 → EReal) (o : ℕ) (ho : o = 256 * b.val) (h : S1x1280.Slices ![0, o] S1x256) :
    extractStridedSlice S1x256 ![0, o] (allV g) h = rowV g b := by
  funext j
  idx_vars j
  pointwise [allV, rowV]
  subst ho
  rfl

/-- The scales times the temperature and the factor of the mean. -/
theorem scale_all : k0_pay48 (tV T) (allV ys) = allV fun j => ys j * (T * K1) := by
  funext j
  idx_vars j
  pointwise [k0_pay48, tV, allV]
  rw [inv_2n_eq]

/-- A column as a row. -/
def toRowT (l : FVec Ideal S256x1 .f32) : FVec Ideal S1x256 .f32 :=
  have w : FVec Ideal S256x128 .f32 :=
    broadcastTo S256x128 (shapeCast S256x1 l shapeCasts_S256x1_S256x1) broadcasts_S256x1_S256x128
  concatenate S1x256 1
    [⟨S1x128, extractStridedSlice S1x128 ![0, 0]
        (transpose S128x128 [1, 0] (extractStridedSlice S128x128 ![0, 0] w slices_S256x128_o0_0_S128x128)
          transposes_S128x128_p1_0_S128x128) slices_S128x128_o0_0_S1x128⟩,
     ⟨S1x128, extractStridedSlice S1x128 ![0, 0]
        (transpose S128x128 [1, 0] (extractStridedSlice S128x128 ![128, 0] w slices_S256x128_o128_0_S128x128)
          transposes_S128x128_p1_0_S128x128) slices_S128x128_o0_0_S1x128⟩]
    concatenates_S1x128_S1x128_S1x256_d1

/-- A block's column of numbers, turned into a row. -/
theorem toRow_blk (l : Fin 1280 → EReal) (b : Fin 5) : toRowT (colV l b) = rowV l b := by
  funext j
  idx_vars j
  pointwise [toRowT, colV, rowV]
  split_ifs <;> first | rfl | simp only [half_eq _ ‹_›]

/-- The sums of a block's rows, as a column. -/
theorem sum_blk (b : Fin 5) :
    shapeCast S256x1 (multiReduction (F := Ideal) (φ := .f32) .add [1] S256 (matV f b) 0x00000000#32 reduces_S256x1280_S256
      (.inl rfl) rfl) shapeCasts_S256_S256x1 = colV (fun i => ∑ j, f i j) b := by
  funext j
  idx_vars j
  pointwise [matV, colV]

/-- A block of the gradient with respect to the logarithm of the temperature. -/
theorem dlt_blk (g : Fin 1280 → Fin 1280 → EReal) (b : Fin 5) :
    k0_pay69 (matV f b) (matV g b) = rowV (fun i => (∑ j, g i j * f i j) * K2) b := by
  have h : mulf (matV g b) (matV f b) = matV (fun i j => g i j * f i j) b := rfl
  show mulf (toRowT (shapeCast S256x1 (multiReduction (F := Ideal) (φ := .f32) .add [1] S256 (mulf (matV g b) (matV f b))
    0x00000000#32 reduces_S256x1280_S256 (.inl rfl) rfl) shapeCasts_S256_S256x1))
    (broadcast S1x256 (Named.named κ "ln2_2n" 0x398DF4E0#32)) = _
  rw [h, sum_blk, toRow_blk, ln2_2n_eq]
  rfl

/-- The left operand of the second gradient's product, for a block of rows. -/
theorem ay_blk (g : Fin 1280 → Fin 1280 → EReal) (b : Fin 5) :
    k0_pay53 (tV T) (matV g b) (rowV xs b) = narrowV (fun i j => g i j * (xs i * (T * K1))) b := by
  funext j
  idx_vars j
  pointwise [k0_pay53, tV, matV, rowV, narrowV]
  rw [inv_2n_eq]
  split_ifs <;> first | rfl | simp only [half_eq _ ‹_›]

/-- A block of rows of the first gradient. -/
theorem dx_blk (s : Fin 1280 → EReal) (g : Fin 1280 → Fin 1280 → EReal) (b : Fin 5) :
    k0_pay54 (allV s) (matV g b) (codesV Y) = outV (fun i d => ∑ j, g i j * s j * Y j d) b := by
  funext j
  idx_vars j
  pointwise [k0_pay54, allV, matV, codesV, outV]

/-- A block of rows of the second gradient, from the columns of the left operand. -/
theorem dy_blk (g : Fin 1280 → Fin 1280 → EReal) (b : Fin 5) :
    k0_pay80 (narrowColsV g b) (codesV X) = outV (fun j d => ∑ i, g i j * X i d) b := by
  funext j
  idx_vars j
  pointwise [k0_pay80, narrowColsV, codesV, outV]

/-- The loss of a block from its row log-sum-exps (a column), its diagonal and its column log-sum-exps (rows). -/
def lossT (l : FVec Ideal S256x1 .f32) (d c : FVec Ideal S1x256 .f32) : FVec Ideal S1x256 .f32 :=
  mulf (addf (subf (toRowT l) d) (subf c d)) (broadcast S1x256 (Named.named κ "ln2_2n" 0x398DF4E0#32))

/-- The losses of a block. -/
theorem loss_blk (l d c : Fin 1280 → EReal) (b : Fin 5) :
    lossT (colV l b) (rowV d b) (rowV c b) = rowV (fun i => ((l i - d i) + (c i - d i)) * K2) b := by
  rw [lossT, toRow_blk, ln2_2n_eq]
  rfl

/-- What the second pass takes of a block's logits, its row log-sum-exps and the column log-sum-exps, the block's rows
    starting at row `w` of the whole. -/
def gradT (w : BitVec 32) (l : FVec Ideal S256x1 .f32) (c : FVec Ideal S1x1280 .f32) (f : FVec Ideal S256x1280 .f32) :
    FVec Ideal S256x1280 .f32 :=
  subf
    (addf (exp2 (subf f (broadcastTo S256x1280 l broadcasts_S256x1_S256x1280)))
      (exp2 (subf f (broadcastTo S256x1280 c broadcasts_S1x1280_S256x1280))))
    (select
      (cmpi .eq (iota .tc S256x1280 32 [1] iota_S256x1280_d1_w32)
        (addi (iota .tc S256x1280 32 [0] iota_S256x1280_d0_w32) (broadcast S256x1280 w)))
      (broadcast S256x1280 (Scalar.ofBits (F := Ideal) .f32 0x40000000#32))
      (broadcast S256x1280 (Scalar.ofBits (F := Ideal) .f32 0x00000000#32)))

/-- The word that the first row of a block is numbered by. -/
def base (b : Fin 5) : BitVec 32 := BitVec.ofNat 32 (256 * b.val)

/-- The gradient with respect to the logits, for a block of rows. -/
theorem grad_blk (b : Fin 5) :
    gradT (base b) (colV (fun i => lse2 (f i)) b) (allV fun j => lse2Blocks fun i => f i j)
      (matV f b) = matV (gradK f) b := by
  funext j
  idx_vars j
  pointwise [gradT, base, colV, allV, matV, gradK, pos]
  rw [WordCmp.addi_ofNat, select_eq _ _ (by omega) (by omega)]
  have h : (j1.val = j0.val + 256 * b.val) = (j1 = gi b j0) := by
    rw [Fin.ext_iff, gi, Nat.add_comm]
  simp only [h]
  rfl

end Cert.KernelIdeal.Value
-- ==== Proof.Run.lean ====
/- The kernel's body, part by part: what each of its parts computes, in the functions of `Blocks.lean`; and what it loads. -/
module

public import proofs.«01_k».proof.Proof.Blocks
public import proofs.«01_k».proof.Proof.Gen.KernelIdeal.Value
public import Idealize.ShloMosaic.Lib.Pipeline.ReadBack

@[expose] public section

set_option maxRecDepth 16384

noncomputable section

namespace Cert.KernelIdeal.Value

open Cert.KernelIdeal Cert.KernelIdeal.Gen Cert.Math Idealize.ShloMosaic Idealize.SL.Sem

/-! ## The five blocks' payloads are the same few functions

The body is printed in parts, and the parts cut the blocks' computations at different places. Each equation below says that
what a part computes is one of the functions of `Blocks.lean` at that block's operands. -/

/-- A cast of a block of rows to its own shape changes nothing. -/
theorem same_eq (v : FVec Ideal S256x1280 .f32) (h) : shapeCast S256x1280 v h = v := by
  funext j
  pointwise

/-- The same in the narrow format. -/
theorem sameN_eq (v : FVec Ideal S256x1280 .bf16) (h) : shapeCast S256x1280 v h = v := by
  funext j
  pointwise

section bridges
variable (v0 : Ideal .f32) (a b c d e q q' : FVec Ideal S1x256 .f32) (t : FVec Ideal S1x1 .f32) (s s' : FVec Ideal S1x1280 .f32)
  (x : FVec Ideal S256x2048 .fp8e4m3) (y : FVec Ideal S1280x2048 .fp8e4m3) (f g : FVec Ideal S256x1280 .f32)
  (l : FVec Ideal S256x1 .f32) (n : FVec Ideal S1280x256 .bf16)

/-- The first block's logits. -/
theorem p6_eq : k0_pay6 v0 a b c d e x y q = k0_pay37 (F := Ideal) (k0_pay4 v0) (k0_pay5 a b c d e) x y q := rfl
/-- The first block's logits, as stored. -/
theorem p7_eq : k0_pay7 v0 a b c d e x y q = k0_pay37 (F := Ideal) (k0_pay4 v0) (k0_pay5 a b c d e) x y q := same_eq _ _
/-- The second block's logits. -/
theorem p14_eq : k0_pay14 s (k0_pay12 x y) (k0_pay13 t q) = k0_pay37 t s x y q := rfl
/-- The second block's logits, as stored. -/
theorem p15_eq : k0_pay15 s (k0_pay12 x y) (k0_pay13 t q) = k0_pay37 t s x y q := same_eq _ _
/-- The second block's row log-sum-exps. -/
theorem p16_eq : k0_pay16 s (k0_pay12 x y) (k0_pay13 t q) = k0_pay8 (k0_pay37 t s x y q) := rfl
/-- The second block's column maxima. -/
theorem p17_eq : k0_pay17 s (k0_pay12 x y) (k0_pay13 t q) = k0_pay9 (k0_pay37 t s x y q) := rfl
/-- The second block's column sums. -/
theorem p18_eq : k0_pay18 s (k0_pay12 x y) (k0_pay13 t q) = k0_pay10 (k0_pay37 t s x y q) := rfl
/-- The second block's diagonal. -/
theorem p19_eq : k0_pay19 s (k0_pay12 x y) (k0_pay13 t q)
    = diagT (extractStridedSlice S256x256 ![0, 256] (k0_pay37 t s x y q) slices_S256x1280_o0_256_S256x256) := rfl
/-- The first block's diagonal. -/
theorem p11_eq : k0_pay11 f = diagT (extractStridedSlice S256x256 ![0, 0] f slices_S256x1280_o0_0_S256x256) := rfl
/-- The third block's logits, as stored. -/
theorem p23_eq : k0_pay23 s (k0_pay20 x y) q (k0_pay21 t) = k0_pay37 t s x y q := same_eq _ _
/-- The third block's row log-sum-exps. -/
theorem p24_eq : k0_pay24 s (k0_pay20 x y) q (k0_pay21 t) = k0_pay8 (k0_pay37 t s x y q) := rfl
/-- The third block's column maxima. -/
theorem p25_eq : k0_pay25 s (k0_pay20 x y) q (k0_pay21 t) = k0_pay9 (k0_pay37 t s x y q) := rfl
/-- The third block's column sums. -/
theorem p26_eq : k0_pay26 s (k0_pay20 x y) q (k0_pay21 t) = k0_pay10 (k0_pay37 t s x y q) := rfl
/-- The third block's diagonal. -/
theorem p27_eq : k0_pay27 s (k0_pay20 x y) q (k0_pay21 t)
    = diagT (extractStridedSlice S256x256 ![0, 512] (k0_pay37 t s x y q) slices_S256x1280_o0_512_S256x256) := rfl
/-- The fourth block's logits, as stored. -/
theorem p30_eq : k0_pay30 t s (k0_pay28 x) y q = k0_pay37 t s x y q := same_eq _ _
/-- The fourth block's row log-sum-exps. -/
theorem p31_eq : k0_pay31 t s (k0_pay28 x) y q = k0_pay8 (k0_pay37 t s x y q) := rfl
/-- The fourth block's column maxima. -/
theorem p32_eq : k0_pay32 t s (k0_pay28 x) y q = k0_pay9 (k0_pay37 t s x y q) := rfl
/-- The fourth block's column sums. -/
theorem p33_eq : k0_pay33 t s (k0_pay28 x) y q = k0_pay10 (k0_pay37 t s x y q) := rfl
/-- The fourth block's diagonal. -/
theorem p36_eq : k0_pay36 k0_pay34 (k0_pay35 t s (k0_pay28 x) y q) (Scalar.ofBits .f32 0x00000000#32)
    = diagT (extractStridedSlice S256x256 ![0, 768] (k0_pay37 t s x y q) slices_S256x1280_o0_768_S256x256) := rfl
/-- The fifth block's logits, as stored. -/
theorem p38_eq : k0_pay38 t s x y q = k0_pay37 t s x y q := same_eq _ _
/-- The fifth block's row log-sum-exps. -/
theorem p39_eq : k0_pay39 t s x y q = k0_pay8 (k0_pay37 t s x y q) := rfl
/-- The fifth block's column maxima. -/
theorem p40_eq : k0_pay40 t s x y q = k0_pay9 (k0_pay37 t s x y q) := rfl
/-- The fifth block's diagonal. -/
theorem p41_eq : k0_pay41 f = diagT (extractStridedSlice S256x256 ![0, 1024] f slices_S256x1280_o0_1024_S256x256) := rfl
/-- The first block's losses. -/
theorem p43_eq (s1 s2 s3 s4 s5 s6 s7 s8 s9 : FVec Ideal S1x1280 .f32) :
    k0_pay43 l s1 s2 q s3 s4 s5 s6 s7 s8 f s9
    = lossT l q (extractStridedSlice S1x256 ![0, 0] (k0_pay42 s1 s2 s3 s4 s5 s6 s7 s8 f s9) slices_S1x1280_o0_0_S1x256) := rfl
/-- The second block's losses. -/
theorem p44_eq : k0_pay44 l q s = lossT l q (extractStridedSlice S1x256 ![0, 256] s slices_S1x1280_o0_256_S1x256) := rfl
/-- The third block's losses. -/
theorem p45_eq : k0_pay45 l q s = lossT l q (extractStridedSlice S1x256 ![0, 512] s slices_S1x1280_o0_512_S1x256) := rfl
/-- The fourth block's losses. -/
theorem p46_eq : k0_pay46 l q s = lossT l q (extractStridedSlice S1x256 ![0, 768] s slices_S1x1280_o0_768_S1x256) := rfl
/-- The fifth block's losses. -/
theorem p47_eq : k0_pay47 l q s = lossT l q (extractStridedSlice S1x256 ![0, 1024] s slices_S1x1280_o0_1024_S1x256) := rfl
/-- The first block's gradient with respect to the logits. -/
theorem p49_eq : k0_pay49 l s f = gradT (base 0) l s f := rfl
/-- The second block's. -/
theorem p57_eq : k0_pay57 (k0_pay55 l f) (k0_pay56 s f) = gradT (base 1) l s f := rfl
/-- The third block's. -/
theorem p63_eq : k0_pay63 l s f = gradT (base 2) l s f := rfl
/-- The fourth block's. -/
theorem p68_eq : k0_pay68 l s f = gradT (base 3) l s f := rfl
/-- The fifth block's. -/
theorem p72_eq : k0_pay72 l s f = gradT (base 4) l s f := rfl
/-- The first block's gradient rows of the temperature. -/
theorem p52_eq : k0_pay52 (k0_pay50 l s f) (k0_pay51 l s f) = k0_pay69 f (k0_pay49 l s f) := rfl
/-- The second block's. -/
theorem p58_eq : k0_pay58 f (k0_pay55 l f) (k0_pay56 s f) = k0_pay69 f (k0_pay57 (k0_pay55 l f) (k0_pay56 s f)) := rfl
/-- The third block's. -/
theorem p64_eq : k0_pay64 l s f = k0_pay69 f (k0_pay63 l s f) := rfl
/-- The fifth block's. -/
theorem p73_eq : k0_pay73 l s f = k0_pay69 f (k0_pay72 l s f) := rfl
/-- The second block's left operand of the second gradient's product. -/
theorem p61_eq : k0_pay61 (k0_pay60 t (k0_pay55 l f) (k0_pay56 s f) q)
    = k0_pay53 t (k0_pay57 (k0_pay55 l f) (k0_pay56 s f)) q := rfl
/-- The third block's. -/
theorem p66_eq : k0_pay66 t g q = k0_pay53 t g q := rfl
/-- The fourth block's. -/
theorem p70_eq : k0_pay70 t g q = k0_pay53 t g q := rfl
/-- The fifth block's. -/
theorem p78_eq : k0_pay78 g (k0_pay76 t q) (k0_pay77 t q) = k0_pay53 t g q := rfl
/-- The second block's rows of the first gradient. -/
theorem p62_eq : k0_pay62 (k0_pay59 s' (k0_pay55 l f) (k0_pay56 s f)) y
    = k0_pay54 s' (k0_pay57 (k0_pay55 l f) (k0_pay56 s f)) y := rfl
/-- The third block's. -/
theorem p67_eq : k0_pay67 (k0_pay65 l s s' f) y = k0_pay54 s' (k0_pay63 l s f) y := rfl
/-- The fourth block's. -/
theorem p71_eq : k0_pay71 s' g y = k0_pay54 s' g y := rfl
/-- The fifth block's. -/
theorem p79_eq : k0_pay79 (k0_pay74 l s s' f) y = k0_pay54 s' (k0_pay72 l s f) y := rfl
/-- The second block's rows of the second gradient. -/
theorem p81_eq : k0_pay81 n y = k0_pay80 (F := Ideal) n y := rfl
/-- The third block's. -/
theorem p1_eq : k0_pay1 n (k0_pay82 y) (constant S256x2048 .f32 0x00000000#32) = k0_pay80 (F := Ideal) n y := rfl
/-- The fourth block's. -/
theorem p2_eq : k0_pay2 n y = k0_pay80 (F := Ideal) n y := rfl
/-- The fifth block's. -/
theorem p3_eq : k0_pay3 n y = k0_pay80 (F := Ideal) n y := rfl
end bridges

/-! ## What the body loads of its inputs -/

/-- A `5 × 256` array of scales as one whole row. -/
def scal (x : Vec Ideal S5x256 .f32) : Fin 1280 → EReal := fun i => x (ix2 ⟨i.val / 256, by omega⟩ ⟨i.val % 256, by omega⟩)

/-- The codes, entry by entry. -/
def cod (x : Vec Ideal S1280x2048 .fp8e4m3) : Fin 1280 → Fin 2048 → EReal := fun i k => x (ix2 i k)

/-- The whole row of scales at row `r` of block `b`. -/
theorem scal_gi (x : Vec Ideal S5x256 .f32) (b : Fin 5) (r : Fin 256) : scal x (gi b r) = x (ix2 b r) := by
  have h1 : (256 * b.val + r.val) / 256 = b.val := by omega
  have h2 : (256 * b.val + r.val) % 256 = r.val := by omega
  simp only [scal, gi, h1, h2]

/-- Loading row `b` of the scales loads block `b` of the whole row. -/
theorem ld_row (b : Fin 5) (o : ℕ) (ho : o = b.val) (x : Vec Ideal S5x256 .f32) (inb) :
    View.ld x (Rect.unit ![o, 0] ![1, 256] inb) = rowV (scal x) b := by
  subst ho
  funext (j : S1x256.Idx)
  idx_vars j
  pointwise [rowV]
  rw [scal_gi]

/-- Loading the rows of block `b` of the codes. -/
theorem ld_block (b : Fin 5) (o : ℕ) (ho : o = 256 * b.val) (x : Vec Ideal S1280x2048 .fp8e4m3) (inb) :
    View.ld x (Rect.unit ![o, 0] ![256, 2048] inb) = codeV (cod x) b := by
  subst ho
  funext (j : S256x2048.Idx)
  idx_vars j
  pointwise [codeV, cod, gi]

/-- Loading all the codes. -/
theorem ld_codes (x : Vec Ideal S1280x2048 .fp8e4m3) (inb) :
    View.ld x (Rect.unit ![0, 0] ![1280, 2048] inb) = codesV (cod x) := by
  funext (j : S1280x2048.Idx)
  idx_vars j
  pointwise [codesV, cod]

end Cert.KernelIdeal.Value
-- ==== Proof.Pieces.lean ====
/- What the kernel's run stores: each output's stores, in closed form. -/
module

public import proofs.«01_k».proof.Proof.Run

@[expose] public section

set_option maxRecDepth 16384

noncomputable section

namespace Cert.KernelIdeal.Value

open Cert.KernelIdeal Cert.KernelIdeal.Gen Cert.Math Idealize.ShloMosaic Idealize.SL.Sem

/-- The temperature: the exponential of the one number that the kernel loads of its first argument. -/
def temp (x : Vec Ideal S1 .f32) : EReal :=
  Ideal.exp (View.ld x (Rect.unit ![0] ![1] inb_S1_S1_0) (Shape.Idx.first (s := S1) (numel1_S1.symm ▸ Nat.one_pos)))

/-- That number is the argument's only entry. -/
theorem temp_val (x : Vec Ideal S1 .f32) : temp x = Ideal.exp (x (ix1 0)) := by
  unfold temp
  congr 1
  pointwise

/-! ## Arrays stored block by block -/

/-- A whole row of numbers as a `5 × 256` array. -/
def rowsOf (f : Fin 1280 → EReal) : Vec Ideal S5x256 .f32 := fun y => f (gi (y 0) (y 1))

/-- A gradient as an array. -/
def gradOf (f : Fin 1280 → Fin 2048 → EReal) : Vec Ideal S1280x2048 .bf16 := fun y => f (y 0) (y 1)

/-- A square matrix as an array. -/
def squareOf (f : Fin 1280 → Fin 1280 → EReal) : Vec Ideal S1280x1280 .bf16 := fun y => f (y 0) (y 1)

/-- Storing block `b` of a row at row `b` of the array stores that block of the array. -/
theorem row_piece (f : Fin 1280 → EReal) (b : Fin 5) (o : ℕ) (ho : o = b.val) (inb)
    (x : (Rect.unit (s := S5x256) ![o, 0] ![1, 256] inb).shape.Idx) :
    rowV f b x = rowsOf f ((Rect.unit (s := S5x256) ![o, 0] ![1, 256] inb).emb x) := by
  subst ho
  refine congrArg f (congrArg₂ gi (Fin.ext ?_) (Fin.ext ?_))
  · have := (x 0).isLt
    show b.val = b.val + 1 * (x 0).val
    have h : (x 0).val < 1 := (x 0).isLt
    omega
  · show (x 1).val = 0 + 1 * (x 1).val
    omega

/-- Storing the rows of block `b` of a gradient stores that block of the array. -/
theorem grad_piece (f : Fin 1280 → Fin 2048 → EReal) (b : Fin 5) (o : ℕ) (ho : o = 256 * b.val) (inb)
    (x : (Rect.unit (s := S1280x2048) ![o, 0] ![256, 2048] inb).shape.Idx) :
    outV f b x = gradOf f ((Rect.unit (s := S1280x2048) ![o, 0] ![256, 2048] inb).emb x) := by
  subst ho
  refine congrArg₂ f (Fin.ext ?_) (Fin.ext ?_)
  · show 256 * b.val + (x 0).val = 256 * b.val + 1 * (x 0).val
    omega
  · show (x 1).val = 0 + 1 * (x 1).val
    omega

/-- Storing the rows of block `b` of a square matrix stores that block of the array. -/
theorem square_piece (f : Fin 1280 → Fin 1280 → EReal) (b : Fin 5) (o : ℕ) (ho : o = 256 * b.val) (inb)
    (x : (Rect.unit (s := S1280x1280) ![o, 0] ![256, 1280] inb).shape.Idx) :
    narrowV f b x = squareOf f ((Rect.unit (s := S1280x1280) ![o, 0] ![256, 1280] inb).emb x) := by
  subst ho
  refine congrArg₂ f (Fin.ext ?_) (Fin.ext ?_)
  · show 256 * b.val + (x 0).val = 256 * b.val + 1 * (x 0).val
    omega
  · show (x 1).val = 0 + 1 * (x 1).val
    omega

/-- Loading the columns of block `b` of a square matrix. -/
theorem ld_cols (f : Fin 1280 → Fin 1280 → EReal) (b : Fin 5) (o : ℕ) (ho : o = 256 * b.val) (inb) :
    (fun j => squareOf f ((Rect.unit (s := S1280x1280) ![0, o] ![1280, 256] inb).toLoadRect.idx j)) = narrowColsV f b := by
  subst ho
  funext j
  refine congrArg₂ f (Fin.ext ?_) (Fin.ext ?_)
  · show 0 + 1 * (j 0).val = (j 0).val
    omega
  · show 256 * b.val + 1 * (j 1).val = 256 * b.val + (j 1).val
    omega

/-- The five stores of a row, in the order in which the newest comes first. -/
def rowPieces (f : Fin 1280 → EReal) : List (View.Piece (Elt Ideal) S5x256 .f32) :=
  [⟨Rect.unit ![4, 0] ![1, 256] inb_S5x256_S1x256_4_0, rowV f 4⟩,
    ⟨Rect.unit ![3, 0] ![1, 256] inb_S5x256_S1x256_3_0, rowV f 3⟩,
    ⟨Rect.unit ![2, 0] ![1, 256] inb_S5x256_S1x256_2_0, rowV f 2⟩,
    ⟨Rect.unit ![1, 0] ![1, 256] inb_S5x256_S1x256_1_0, rowV f 1⟩,
    ⟨Rect.unit ![0, 0] ![1, 256] inb_S5x256_S1x256_0_0, rowV f 0⟩]

/-- The five stores of a gradient. -/
def gradPieces (f : Fin 1280 → Fin 2048 → EReal) : List (View.Piece (Elt Ideal) S1280x2048 .bf16) :=
  [⟨Rect.unit ![1024, 0] ![256, 2048] inb_S1280x2048_S256x2048_1024_0, outV f 4⟩,
    ⟨Rect.unit ![768, 0] ![256, 2048] inb_S1280x2048_S256x2048_768_0, outV f 3⟩,
    ⟨Rect.unit ![512, 0] ![256, 2048] inb_S1280x2048_S256x2048_512_0, outV f 2⟩,
    ⟨Rect.unit ![256, 0] ![256, 2048] inb_S1280x2048_S256x2048_256_0, outV f 1⟩,
    ⟨Rect.unit ![0, 0] ![256, 2048] inb_S1280x2048_S256x2048_0_0, outV f 0⟩]

/-- The five stores of a square matrix. -/
def squarePieces (f : Fin 1280 → Fin 1280 → EReal) : List (View.Piece (Elt Ideal) S1280x1280 .bf16) :=
  [⟨Rect.unit ![1024, 0] ![256, 1280] inb_S1280x1280_S256x1280_1024_0, narrowV f 4⟩,
    ⟨Rect.unit ![768, 0] ![256, 1280] inb_S1280x1280_S256x1280_768_0, narrowV f 3⟩,
    ⟨Rect.unit ![512, 0] ![256, 1280] inb_S1280x1280_S256x1280_512_0, narrowV f 2⟩,
    ⟨Rect.unit ![256, 0] ![256, 1280] inb_S1280x1280_S256x1280_256_0, narrowV f 1⟩,
    ⟨Rect.unit ![0, 0] ![256, 1280] inb_S1280x1280_S256x1280_0_0, narrowV f 0⟩]

/-- Stores that are blocks of an array leave that array wherever one of them covers. -/
theorem canon_of_pieces {s : Shape} {e : EltTy} (G : s.Idx → Elt Ideal e) (L : List (View.Piece (Elt Ideal) s e))
    (h : View.PiecesOf G L) (y : s.Idx) (hc : ∃ p ∈ L, y ∈ p.1.set) : View.canon L y = G y := by
  have := View.canon_append_of_piecesOf G [] L h y hc
  rwa [List.append_nil] at this

/-- The five stores of a row are blocks of the row's array. -/
theorem rowPieces_of (f : Fin 1280 → EReal) : View.PiecesOf (rowsOf f) (rowPieces f) :=
  And.intro (row_piece f 4 4 rfl inb_S5x256_S1x256_4_0) (And.intro (row_piece f 3 3 rfl inb_S5x256_S1x256_3_0) (And.intro (row_piece f 2 2 rfl inb_S5x256_S1x256_2_0)
    (And.intro (row_piece f 1 1 rfl inb_S5x256_S1x256_1_0) (And.intro (row_piece f 0 0 rfl inb_S5x256_S1x256_0_0) trivial))))

/-- The five stores of a gradient are blocks of the gradient's array. -/
theorem gradPieces_of (f : Fin 1280 → Fin 2048 → EReal) : View.PiecesOf (gradOf f) (gradPieces f) :=
  And.intro (grad_piece f 4 1024 rfl inb_S1280x2048_S256x2048_1024_0) (And.intro (grad_piece f 3 768 rfl inb_S1280x2048_S256x2048_768_0) (And.intro (grad_piece f 2 512 rfl inb_S1280x2048_S256x2048_512_0)
    (And.intro (grad_piece f 1 256 rfl inb_S1280x2048_S256x2048_256_0) (And.intro (grad_piece f 0 0 rfl inb_S1280x2048_S256x2048_0_0) trivial))))

/-- The five stores of a square matrix are blocks of the matrix. -/
theorem squarePieces_of (f : Fin 1280 → Fin 1280 → EReal) : View.PiecesOf (squareOf f) (squarePieces f) :=
  And.intro (square_piece f 4 1024 rfl inb_S1280x1280_S256x1280_1024_0) (And.intro (square_piece f 3 768 rfl inb_S1280x1280_S256x1280_768_0) (And.intro (square_piece f 2 512 rfl inb_S1280x1280_S256x1280_512_0)
    (And.intro (square_piece f 1 256 rfl inb_S1280x1280_S256x1280_256_0) (And.intro (square_piece f 0 0 rfl inb_S1280x1280_S256x1280_0_0) trivial))))

/-- After the five blocks of rows of a matrix were stored in the scratch, loading columns of it loads columns of the matrix. -/
theorem cols_eq (v : View sig .tc .vmem S1280x1280 .bf16) (f : Fin 1280 → Fin 1280 → EReal) (b : Fin 5) (o : ℕ) (ho : o = 256 * b.val) (inb) :
    v.readCov (Val := Elt Ideal) (squarePieces f) (Rect.unit ![0, o] ![1280, 256] inb).toLoadRect = narrowColsV f b := by
  rw [View.readCov_eq_canon', ← ld_cols f b o ho inb]
  funext j
  exact canon_of_pieces (squareOf f) (squarePieces f) (squarePieces_of f) _
    (View.cover_of_tiledL (squarePieces f) S256x1280.size (by sl_kernel_rfl) _)

/-- The same, with the stores written out. -/
theorem cols_blk (v : View sig .tc .vmem S1280x1280 .bf16) (f : Fin 1280 → Fin 1280 → EReal) (b : Fin 5) (o : ℕ) (ho : o = 256 * b.val) (inb) :
    v.readCov (Val := Elt Ideal)
      [⟨Rect.unit ![1024, 0] ![256, 1280] inb_S1280x1280_S256x1280_1024_0, narrowV f 4⟩,
      ⟨Rect.unit ![768, 0] ![256, 1280] inb_S1280x1280_S256x1280_768_0, narrowV f 3⟩,
      ⟨Rect.unit ![512, 0] ![256, 1280] inb_S1280x1280_S256x1280_512_0, narrowV f 2⟩,
      ⟨Rect.unit ![256, 0] ![256, 1280] inb_S1280x1280_S256x1280_256_0, narrowV f 1⟩,
      ⟨Rect.unit ![0, 0] ![256, 1280] inb_S1280x1280_S256x1280_0_0, narrowV f 0⟩]
      (Rect.unit ![0, o] ![1280, 256] inb).toLoadRect = narrowColsV f b :=
  cols_eq v f b o ho inb

/-! ## What the run stores in each output -/

variable (c : Dev nD) (arg0 : Memref sig .tc .smem S1 .f32) (harg0 : arg0.IsWhole) (arg1 : Memref sig .tc .vmem S5x256 .f32) (harg1 : arg1.IsWhole) (arg2 : Memref sig .tc .vmem S5x256 .f32) (harg2 : arg2.IsWhole) (arg3 : Memref sig .tc .vmem S1280x2048 .fp8e4m3) (harg3 : arg3.IsWhole) (arg4 : Memref sig .tc .vmem S1280x2048 .fp8e4m3) (harg4 : arg4.IsWhole) (arg5 : Memref sig .tc .vmem S5x256 .f32) (harg5 : arg5.IsWhole) (arg6 : Memref sig .tc .vmem S1280x2048 .bf16) (harg6 : arg6.IsWhole) (arg7 : Memref sig .tc .vmem S1280x2048 .bf16) (harg7 : arg7.IsWhole) (arg8 : Memref sig .tc .vmem S5x256 .f32) (harg8 : arg8.IsWhole) (arg9 : Memref sig .tc .vmem S1280x1280 .f32) (harg9 : arg9.IsWhole) (arg10 : Memref sig .tc .vmem S1280x1280 .bf16) (harg10 : arg10.IsWhole)
  (x0 : Vec Ideal S1 .f32) (x1 : Vec Ideal S5x256 .f32) (x2 : Vec Ideal S5x256 .f32)
  (x3 : Vec Ideal S1280x2048 .fp8e4m3) (x4 : Vec Ideal S1280x2048 .fp8e4m3)

/-- The kernel's logits, in base-two units, of the arrays that it loads. -/
def logits : Fin 1280 → Fin 1280 → EReal := logitK (temp x0) (scal x1) (scal x2) (cod x3) (cod x4)

/-- The run's stores: each output is stored in five blocks, and each block is that block of the loss, of the two gradients and of
the temperature's gradient. -/
theorem pieces :
    (kernelRun0_A c arg0 harg0 arg1 harg1 arg2 harg2 arg3 harg3 arg4 harg4 arg5 harg5 arg6 harg6 arg7 harg7 arg8 harg8 arg9 harg9 arg10 harg10 x0 x1 x2 x3 x4).1 = rowPieces (lossK (logits x0 x1 x2 x3 x4))
    ∧ (kernelRun0_A c arg0 harg0 arg1 harg1 arg2 harg2 arg3 harg3 arg4 harg4 arg5 harg5 arg6 harg6 arg7 harg7 arg8 harg8 arg9 harg9 arg10 harg10 x0 x1 x2 x3 x4).2.1 = gradPieces (dxK (temp x0) (scal x2) (cod x4) (logits x0 x1 x2 x3 x4))
    ∧ (kernelRun0_A c arg0 harg0 arg1 harg1 arg2 harg2 arg3 harg3 arg4 harg4 arg5 harg5 arg6 harg6 arg7 harg7 arg8 harg8 arg9 harg9 arg10 harg10 x0 x1 x2 x3 x4).2.2.1 = gradPieces (dyK (temp x0) (scal x1) (cod x3) (logits x0 x1 x2 x3 x4))
    ∧ (kernelRun0_A c arg0 harg0 arg1 harg1 arg2 harg2 arg3 harg3 arg4 harg4 arg5 harg5 arg6 harg6 arg7 harg7 arg8 harg8 arg9 harg9 arg10 harg10 x0 x1 x2 x3 x4).2.2.2.1 = rowPieces (dltK (logits x0 x1 x2 x3 x4)) := by
  unfold kernelRun0_A
  dsimp only
  sl_unfold_words
  simp only [View.readAt_eq_ld, Memref.IsWhole.read_unread]
  simp (disch := decide) only [↓ View.readCov_skip, ↓ View.readCov_cons_toLoadRect]
  simp only [
    ld_row 0 0 rfl, ld_row 1 1 rfl, ld_row 2 2 rfl, ld_row 3 3 rfl, ld_row 4 4 rfl, ld_block 0 0 rfl, ld_block 1 256 rfl, ld_block 2 512 rfl, ld_block 3 768 rfl, ld_block 4 1024 rfl,
    ld_codes, temp_eq, scales_eq,
    p6_eq, p7_eq, p15_eq, p16_eq, p17_eq, p18_eq, p19_eq, p11_eq, p23_eq, p24_eq, p25_eq, p26_eq, p27_eq, p30_eq,
    p31_eq, p32_eq, p33_eq, p36_eq, p38_eq, p39_eq, p40_eq, p41_eq, p43_eq, p44_eq, p45_eq, p46_eq, p47_eq, p49_eq,
    p57_eq, p63_eq, p68_eq, p72_eq, p52_eq, p58_eq, p64_eq, p73_eq, p61_eq, p66_eq, p70_eq, p78_eq, p62_eq, p67_eq,
    p71_eq, p79_eq, p81_eq, p1_eq, p2_eq, p3_eq,
    logits_blk, rl_blk, cm_blk, cs_blk, cl_all, slice_blk _ 0 0 rfl, slice_blk _ 1 256 rfl, slice_blk _ 2 512 rfl,
    slice_blk _ 3 768 rfl, slice_blk _ 4 1024 rfl, cut_all 0 _ 0 rfl, cut_all 1 _ 256 rfl, cut_all 2 _ 512 rfl,
    cut_all 3 _ 768 rfl, cut_all 4 _ 1024 rfl, diag_blk, loss_blk, scale_all, grad_blk, dlt_blk, ay_blk, dx_blk,
    cols_blk _ _ 0 0 rfl, cols_blk _ _ 1 256 rfl, cols_blk _ _ 2 512 rfl, cols_blk _ _ 3 768 rfl, cols_blk _ _ 4 1024 rfl, dy_blk]
  exact ⟨rfl, rfl, rfl, rfl⟩

/-- What the run leaves in output 5: the loss. -/
theorem out5_eq : out0_A_5 c arg0 harg0 arg1 harg1 arg2 harg2 arg3 harg3 arg4 harg4 arg5 harg5 arg6 harg6 arg7 harg7 arg8 harg8 arg9 harg9 arg10 harg10 x0 x1 x2 x3 x4 = rowsOf (lossK (logits x0 x1 x2 x3 x4)) := by
  have h := (pieces c arg0 harg0 arg1 harg1 arg2 harg2 arg3 harg3 arg4 harg4 arg5 harg5 arg6 harg6 arg7 harg7 arg8 harg8 arg9 harg9 arg10 harg10 x0 x1 x2 x3 x4).1
  funext y
  unfold out0_A_5
  rw [View.read_writes_eq_canon _ _ _ (cover0_A_5 c arg0 harg0 arg1 harg1 arg2 harg2 arg3 harg3 arg4 harg4 arg5 harg5 arg6 harg6 arg7 harg7 arg8 harg8 arg9 harg9 arg10 harg10 x0 x1 x2 x3 x4)]
  have hc := cover0_A_5 c arg0 harg0 arg1 harg1 arg2 harg2 arg3 harg3 arg4 harg4 arg5 harg5 arg6 harg6 arg7 harg7 arg8 harg8 arg9 harg9 arg10 harg10 x0 x1 x2 x3 x4 y
  rw [h] at hc ⊢
  exact canon_of_pieces _ _ (rowPieces_of _) y hc

/-- What the run leaves in output 6: the gradient of the first operand. -/
theorem out6_eq : out0_A_6 c arg0 harg0 arg1 harg1 arg2 harg2 arg3 harg3 arg4 harg4 arg5 harg5 arg6 harg6 arg7 harg7 arg8 harg8 arg9 harg9 arg10 harg10 x0 x1 x2 x3 x4 = gradOf (dxK (temp x0) (scal x2) (cod x4) (logits x0 x1 x2 x3 x4)) := by
  have h := (pieces c arg0 harg0 arg1 harg1 arg2 harg2 arg3 harg3 arg4 harg4 arg5 harg5 arg6 harg6 arg7 harg7 arg8 harg8 arg9 harg9 arg10 harg10 x0 x1 x2 x3 x4).2.1
  funext y
  unfold out0_A_6
  rw [View.read_writes_eq_canon _ _ _ (cover0_A_6 c arg0 harg0 arg1 harg1 arg2 harg2 arg3 harg3 arg4 harg4 arg5 harg5 arg6 harg6 arg7 harg7 arg8 harg8 arg9 harg9 arg10 harg10 x0 x1 x2 x3 x4)]
  have hc := cover0_A_6 c arg0 harg0 arg1 harg1 arg2 harg2 arg3 harg3 arg4 harg4 arg5 harg5 arg6 harg6 arg7 harg7 arg8 harg8 arg9 harg9 arg10 harg10 x0 x1 x2 x3 x4 y
  rw [h] at hc ⊢
  exact canon_of_pieces _ _ (gradPieces_of _) y hc

/-- What the run leaves in output 7: the gradient of the second operand. -/
theorem out7_eq : out0_A_7 c arg0 harg0 arg1 harg1 arg2 harg2 arg3 harg3 arg4 harg4 arg5 harg5 arg6 harg6 arg7 harg7 arg8 harg8 arg9 harg9 arg10 harg10 x0 x1 x2 x3 x4 = gradOf (dyK (temp x0) (scal x1) (cod x3) (logits x0 x1 x2 x3 x4)) := by
  have h := (pieces c arg0 harg0 arg1 harg1 arg2 harg2 arg3 harg3 arg4 harg4 arg5 harg5 arg6 harg6 arg7 harg7 arg8 harg8 arg9 harg9 arg10 harg10 x0 x1 x2 x3 x4).2.2.1
  funext y
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 x0 x1 x2 x3 x4)]
  have hc := cover0_A_7 c arg0 harg0 arg1 harg1 arg2 harg2 arg3 harg3 arg4 harg4 arg5 harg5 arg6 harg6 arg7 harg7 arg8 harg8 arg9 harg9 arg10 harg10 x0 x1 x2 x3 x4 y
  rw [h] at hc ⊢
  exact canon_of_pieces _ _ (gradPieces_of _) y hc

/-- What the run leaves in output 8: the gradient of the temperature. -/
theorem out8_eq : out0_A_8 c arg0 harg0 arg1 harg1 arg2 harg2 arg3 harg3 arg4 harg4 arg5 harg5 arg6 harg6 arg7 harg7 arg8 harg8 arg9 harg9 arg10 harg10 x0 x1 x2 x3 x4 = rowsOf (dltK (logits x0 x1 x2 x3 x4)) := by
  have h := (pieces c arg0 harg0 arg1 harg1 arg2 harg2 arg3 harg3 arg4 harg4 arg5 harg5 arg6 harg6 arg7 harg7 arg8 harg8 arg9 harg9 arg10 harg10 x0 x1 x2 x3 x4).2.2.2
  funext y
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 x0 x1 x2 x3 x4)]
  have hc := cover0_A_8 c arg0 harg0 arg1 harg1 arg2 harg2 arg3 harg3 arg4 harg4 arg5 harg5 arg6 harg6 arg7 harg7 arg8 harg8 arg9 harg9 arg10 harg10 x0 x1 x2 x3 x4 y
  rw [h] at hc ⊢
  exact canon_of_pieces _ _ (rowPieces_of _) y hc

end Cert.KernelIdeal.Value
-- ==== Proof.Arrays.lean ====
/- The kernel's four result arrays after its run, as the mathematics of `Loss.lean` at its arguments. -/
module

public import proofs.«01_k».proof.Proof.Pieces

@[expose] public section

set_option maxRecDepth 16384

noncomputable section

namespace Cert.KernelIdeal.Value

open Cert.KernelIdeal Cert.KernelIdeal.Gen Cert.Math Idealize.ShloMosaic Idealize.ShloMosaic.TcCoe Idealize.SL.Sem
open Idealize.ShloMosaic.Pipeline (Dat Cfg Window)

variable (m : (ℓ : Loc nD τ sig) → Buf (Elt Ideal) ℓ)

/-- The one grid point. -/
def t₀ : Fin cfg0.N := ⟨0, by decide⟩

/-- The one block of input window 0 is its whole array: the temperature's logarithm. -/
theorem iblk0 (c : Dev nD) : iblk m c 0 t₀ = V m c main_v0 :=
  Memref.read_access_unit_zero (Elt Ideal) main_v0 (off := fun a => (win0_0.index t₀) a * main_v0.ty.shape.size a)
    (funext fun a => by fin_cases a <;> decide) (fun a => by fin_cases a <;> decide) _

/-- The one block of input window 1 is its whole array: the scales of the first operand. -/
theorem iblk1 (c : Dev nD) : iblk m c 1 t₀ = V m c main_arg1 :=
  Memref.read_access_unit_zero (Elt Ideal) main_arg1 (off := fun a => (win0_1.index t₀) a * main_arg1.ty.shape.size a)
    (funext fun a => by fin_cases a <;> decide) (fun a => by fin_cases a <;> decide) _

/-- The one block of input window 2 is its whole array: the scales of the second operand. -/
theorem iblk2 (c : Dev nD) : iblk m c 2 t₀ = V m c main_arg3 :=
  Memref.read_access_unit_zero (Elt Ideal) main_arg3 (off := fun a => (win0_2.index t₀) a * main_arg3.ty.shape.size a)
    (funext fun a => by fin_cases a <;> decide) (fun a => by fin_cases a <;> decide) _

/-- The one block of input window 3 is its whole array: the codes of the first operand. -/
theorem iblk3 (c : Dev nD) : iblk m c 3 t₀ = V m c main_v1 :=
  Memref.read_access_unit_zero (Elt Ideal) main_v1 (off := fun a => (win0_3.index t₀) a * main_v1.ty.shape.size a)
    (funext fun a => by fin_cases a <;> decide) (fun a => by fin_cases a <;> decide) _

/-- The one block of input window 4 is its whole array: the codes of the second operand. -/
theorem iblk4 (c : Dev nD) : iblk m c 4 t₀ = V m c main_v2 :=
  Memref.read_access_unit_zero (Elt Ideal) main_v2 (off := fun a => (win0_4.index t₀) a * main_v2.ty.shape.size a)
    (funext fun a => by fin_cases a <;> decide) (fun a => by fin_cases a <;> decide) _

/-- The array of output window 5 after the run is what the body left in the window's buffer. -/
theorem arr5 (c : Dev nD) : (dats m 0 c).arrAt 5 cfg0.N = rowsOf (lossK (logits (iblk m c 0 t₀) (iblk m c 1 t₀) (iblk m c 2 t₀) (iblk m c 3 t₀) (iblk m c 4 t₀))) := by
  have h := (blocks5 m c t₀ (flush0_5 t₀)).trans (flushed5_A m c t₀)
  have hz : (fun a => (win0_5.index t₀) a * main_v3_0.ty.shape.size a) = fun _ => 0 := funext fun a => by fin_cases a <;> decide
  have hr := fun f => Memref.read_access_unit_zero (Elt Ideal) main_v3_0 hz (fun a => by fin_cases a <;> decide) f
  rw [hr, out5_eq] at h
  exact h

/-- The array of output window 6 after the run is what the body left in the window's buffer. -/
theorem arr6 (c : Dev nD) : (dats m 0 c).arrAt 6 cfg0.N = gradOf (dxK (temp (iblk m c 0 t₀)) (scal (iblk m c 2 t₀)) (cod (iblk m c 4 t₀)) (logits (iblk m c 0 t₀) (iblk m c 1 t₀) (iblk m c 2 t₀) (iblk m c 3 t₀) (iblk m c 4 t₀))) := by
  have h := (blocks6 m c t₀ (flush0_6 t₀)).trans (flushed6_A m c t₀)
  have hz : (fun a => (win0_6.index t₀) a * main_v3_1.ty.shape.size a) = fun _ => 0 := funext fun a => by fin_cases a <;> decide
  have hr := fun f => Memref.read_access_unit_zero (Elt Ideal) main_v3_1 hz (fun a => by fin_cases a <;> decide) f
  rw [hr, out6_eq] at h
  exact h

/-- The array of output window 7 after the run is what the body left in the window's buffer. -/
theorem arr7 (c : Dev nD) : (dats m 0 c).arrAt 7 cfg0.N = gradOf (dyK (temp (iblk m c 0 t₀)) (scal (iblk m c 1 t₀)) (cod (iblk m c 3 t₀)) (logits (iblk m c 0 t₀) (iblk m c 1 t₀) (iblk m c 2 t₀) (iblk m c 3 t₀) (iblk m c 4 t₀))) := by
  have h := (blocks7 m c t₀ (flush0_7 t₀)).trans (flushed7_A m c t₀)
  have hz : (fun a => (win0_7.index t₀) a * main_v3_2.ty.shape.size a) = fun _ => 0 := funext fun a => by fin_cases a <;> decide
  have hr := fun f => Memref.read_access_unit_zero (Elt Ideal) main_v3_2 hz (fun a => by fin_cases a <;> decide) f
  rw [hr, out7_eq] at h
  exact h

/-- The array of output window 8 after the run is what the body left in the window's buffer. -/
theorem arr8 (c : Dev nD) : (dats m 0 c).arrAt 8 cfg0.N = rowsOf (dltK (logits (iblk m c 0 t₀) (iblk m c 1 t₀) (iblk m c 2 t₀) (iblk m c 3 t₀) (iblk m c 4 t₀))) := by
  have h := (blocks8 m c t₀ (flush0_8 t₀)).trans (flushed8_A m c t₀)
  have hz : (fun a => (win0_8.index t₀) a * main_v3_3.ty.shape.size a) = fun _ => 0 := funext fun a => by fin_cases a <;> decide
  have hr := fun f => Memref.read_access_unit_zero (Elt Ideal) main_v3_3 hz (fun a => by fin_cases a <;> decide) f
  rw [hr, out8_eq] at h
  exact h

/-! ## The reshapes of the arguments before the body -/

/-- The body's temperature array is the last argument, laid out as an array of one number. -/
theorem V_main_v0 (c : Dev nD) : V m c main_v0 = shapeCast S1 (m ((c : Thread nD τ).loc main_arg4)) shapeCasts_S_S1 := by
  simp only [V, hostOps0, StableHlo.after_cons, StableHlo.after_nil]
  rfl

/-- The first operand's codes, row after row. -/
theorem V_main_v1 (c : Dev nD) : V m c main_v1 = shapeCast S1280x2048 (m ((c : Thread nD τ).loc main_arg0)) shapeCasts_S5x256x2048_S1280x2048 := by
  simp only [V, hostOps0, StableHlo.after_cons, StableHlo.after_nil]
  rfl

/-- The second operand's codes, row after row. -/
theorem V_main_v2 (c : Dev nD) : V m c main_v2 = shapeCast S1280x2048 (m ((c : Thread nD τ).loc main_arg2)) shapeCasts_S5x256x2048_S1280x2048 := by
  simp only [V, hostOps0, StableHlo.after_cons, StableHlo.after_nil]
  rfl

/-- The temperature, of the arguments as launched. -/
def T (c : Dev nD) : EReal := Ideal.exp (m ((c : Thread nD τ).loc main_arg4) ix0)
/-- The scales of the first operand. -/
def xs (c : Dev nD) : Fin 1280 → EReal := flat fun b r => m ((c : Thread nD τ).loc main_arg1) (ix2 b r)
/-- The scales of the second operand. -/
def ys (c : Dev nD) : Fin 1280 → EReal := flat fun b r => m ((c : Thread nD τ).loc main_arg3) (ix2 b r)
/-- The codes of the first operand. -/
def X (c : Dev nD) : Fin 1280 → Fin 2048 → EReal := flat fun b r k => m ((c : Thread nD τ).loc main_arg0) (ix3 b r k)
/-- The codes of the second operand. -/
def Y (c : Dev nD) : Fin 1280 → Fin 2048 → EReal := flat fun b r k => m ((c : Thread nD τ).loc main_arg2) (ix3 b r k)

/-- The array of one number has that number. -/
theorem temp_cast (a : Vec Ideal S_ .f32) : temp (shapeCast S1 a shapeCasts_S_S1) = Ideal.exp (a ix0) := by
  rw [temp_val]
  exact congrArg (fun i => Ideal.exp (a i)) (funext fun k => k.elim0)

/-- The codes, read row by row. -/
theorem cod_cast (a : Vec Ideal S5x256x2048 .fp8e4m3) :
    cod (shapeCast S1280x2048 a shapeCasts_S5x256x2048_S1280x2048) = flat fun b r k => a (ix3 b r k) := by
  funext i k
  unfold cod flat
  pointwise

/-- The logits in base-two units that the kernel computes. -/
theorem logits_eq (c : Dev nD) : logits (V m c main_v0) (V m c main_arg1) (V m c main_arg3) (V m c main_v1) (V m c main_v2)
    = logitK (T m c) (xs m c) (ys m c) (X m c) (Y m c) := by
  unfold logits
  rw [V_main_v0, V_main_v1, V_main_v2, V_main_arg1, V_main_arg3, temp_cast, cod_cast, cod_cast]
  rfl

/-! ## The results -/

/-- The losses, of the arguments as launched. -/
theorem final5 (c : Dev nD) : (dats m 0 c).arrAt 5 cfg0.N
    = fun y => lossR (T m c) (xs m c) (ys m c) (X m c) (Y m c) (gi (y 0) (y 1)) := by
  rw [arr5, iblk0, iblk1, iblk2, iblk3, iblk4, logits_eq]
  exact funext fun y => lossK_eq _ _ _ _ _ _

/-- The gradient with respect to the first operand's codes, of the arguments as launched. -/
theorem final6 (c : Dev nD) : (dats m 0 c).arrAt 6 cfg0.N
    = fun y => dxR (T m c) (xs m c) (ys m c) (X m c) (Y m c) (y 0) (y 1) := by
  rw [arr6, iblk0, iblk1, iblk2, iblk3, iblk4, logits_eq, V_main_v0, V_main_v2, V_main_arg3, temp_cast, cod_cast]
  exact funext fun y => dxK_eq (T m c) (xs m c) (ys m c) (X m c) (Y m c) (y 0) (y 1)

/-- The gradient with respect to the second operand's codes, of the arguments as launched. -/
theorem final7 (c : Dev nD) : (dats m 0 c).arrAt 7 cfg0.N
    = fun y => dyR (T m c) (xs m c) (ys m c) (X m c) (Y m c) (y 0) (y 1) := by
  rw [arr7, iblk0, iblk1, iblk2, iblk3, iblk4, logits_eq, V_main_v0, V_main_v1, V_main_arg1, temp_cast, cod_cast]
  exact funext fun y => dyK_eq (T m c) (xs m c) (ys m c) (X m c) (Y m c) (y 0) (y 1)

/-- The rows of the gradient with respect to the logarithm of the temperature, of the arguments as launched. -/
theorem final8 (c : Dev nD) : (dats m 0 c).arrAt 8 cfg0.N
    = fun y => dltR (T m c) (xs m c) (ys m c) (X m c) (Y m c) (gi (y 0) (y 1)) := by
  rw [arr8, iblk0, iblk1, iblk2, iblk3, iblk4, logits_eq]
  exact funext fun y => dltK_eq _ _ _ _ _ _

end Cert.KernelIdeal.Value
-- ==== Proof.Reference.lean ====
/- The reference's body entry by entry: each of its four results is the mathematics of `Loss.lean` at the arrays that it
   loads. -/
module

public import proofs.«01_k».proof.Proof.Loss
public import proofs.«01_k».proof.Proof.Gen.ReferenceIdeal.Value
public import Idealize.ShloMosaic.Lib.WordCmp
public import Idealize.ShloMosaic.Lib.Pointwise

@[expose] public section

set_option maxRecDepth 16384

noncomputable section

namespace Cert.ReferenceIdeal.Value

open Cert.ReferenceIdeal Cert.ReferenceIdeal.Gen Cert.Math Idealize.ShloMosaic Idealize.SL.Sem

variable (x0 : Vec Ideal S1x1 .f32) (x1 : Vec Ideal S1280x1 .f32) (x2 : Vec Ideal S1x1280 .f32)
  (x3 x4 : Vec Ideal S1280x2048 .fp8e4m3)

/-- The temperature. -/
def temp : EReal := Ideal.exp (x0 (ix2 0 0))
/-- The scales of the first operand, as a row of numbers. -/
def xscale (i : Fin 1280) : EReal := x1 (ix2 i 0)
/-- The scales of the second operand. -/
def yscale (i : Fin 1280) : EReal := x2 (ix2 0 i)
/-- The codes, entry by entry. -/
def code (x : Vec Ideal S1280x2048 .fp8e4m3) (i : Fin 1280) (k : Fin 2048) : EReal := x (ix2 i k)

/-- The logits of the arrays. -/
def logit : Fin 1280 → Fin 1280 → EReal := logitR (temp x0) (xscale x1) (yscale x2) (code x3) (code x4)

/-- The named constant is the factor of the mean. -/
theorem inv_2n_eq : (Named.named (F := Ideal) κ "inv_2n" 0x39CCCCCD#32 : Ideal .f32) = K1 :=
  IdealRules.named_const.ideal_named_scalar κ _ _ _ rfl

/-- The word that a largest value starts from. -/
theorem ninf_eq : Ideal.ofBits .f32 0xFF800000#32 = ⊥ := by
  simp [Ideal.ofBits, Ideal.ieee]

/-- A choice on the equality of two index words is the choice on the equality of the indices. -/
theorem select_eq (a b : ℕ) (ha : a < 2 ^ 32) (hb : b < 2 ^ 32) (x y : EReal) :
    Scalar.select (IntOp.cmpi .eq (BitVec.ofNat 32 a) (BitVec.ofNat 32 b)) x y = if a = b then x else y := by
  rw [WordCmp.cmpi_eq_ofNat ha hb, WordCmp.select_decide]

/-- The matrix of logits. -/
theorem logit_eq : k0_pay12 x0 x3 x4 x1 x2 = fun j => logit x0 x1 x2 x3 x4 (j 0) (j 1) := by
  funext j
  idx_vars j
  pointwise [k0_pay12, k0_pay7, k0_pay8, k0_pay9, k0_pay10, k0_pay11, logit, logitR, acc, temp, xscale, yscale, code]

/-! ## The operations along an axis, at an entry -/

/-- The largest entry of each row. -/
theorem row_max (v : FVec Ideal S1280x1280 .f32) (i : Fin 1280) :
    multiReduction .maximumf [1] S1280 v 0xFF800000#32 reduces_S1280x1280_S1280 (.inl rfl) rfl (ix1 i) = mx fun k => v (ix2 i k) := by
  pointwise [mx]
  rw [ninf_eq]

/-- The sum of each row. -/
theorem row_sum (v : FVec Ideal S1280x1280 .f32) (i : Fin 1280) :
    multiReduction .add [1] S1280 v 0x00000000#32 reduces_S1280x1280_S1280 (.inl rfl) rfl (ix1 i) = ∑ k, v (ix2 i k) := by
  pointwise

/-- The largest entry of each column. -/
theorem col_max (v : FVec Ideal S1280x1280 .f32) (j : Fin 1280) :
    multiReduction .maximumf [0] S1280 v 0xFF800000#32 reduces_S1280x1280_S1280_2 (.inl rfl) rfl (ix1 j) = mx fun k => v (ix2 k j) := by
  pointwise [mx]
  rw [ninf_eq]

/-- The sum of each column. -/
theorem col_sum (v : FVec Ideal S1280x1280 .f32) (j : Fin 1280) :
    multiReduction .add [0] S1280 v 0x00000000#32 reduces_S1280x1280_S1280_2 (.inl rfl) rfl (ix1 j) = ∑ k, v (ix2 k j) := by
  pointwise

/-- The exponentials of the entries less a number per row. -/
theorem exp_sub_rows (v : FVec Ideal S1280x1280 .f32) (m : FVec Ideal S1280 .f32) (i k : Fin 1280) :
    exp (subf v (broadcastTo S1280x1280 (shapeCast S1280x1 m shapeCasts_S1280_S1280x1) broadcasts_S1280x1_S1280x1280)) (ix2 i k)
      = Ideal.exp (v (ix2 i k) - m (ix1 i)) := by
  pointwise

/-- The exponentials of the entries less a number per column. -/
theorem exp_sub_cols (v : FVec Ideal S1280x1280 .f32) (m : FVec Ideal S1280 .f32) (k j : Fin 1280) :
    exp (subf v (broadcastTo S1280x1280 (shapeCast S1x1280 m shapeCasts_S1280_S1x1280) broadcasts_S1x1280_S1280x1280)) (ix2 k j)
      = Ideal.exp (v (ix2 k j) - m (ix1 j)) := by
  pointwise

/-- A sum with a logarithm, at an entry. -/
theorem add_log (m s : FVec Ideal S1280 .f32) (i : Fin 1280) :
    addf m (log s) (ix1 i) = m (ix1 i) + Ideal.log (s (ix1 i)) := rfl

/-- A number that is the largest value of a family, plus the logarithm of the sum of the exponentials of the differences
    from it, is the log-sum-exp of the family. -/
theorem lse_of (f : Fin 1280 → EReal) (m s : EReal) (hm : m = mx f) (hs : s = ∑ k, Ideal.exp (f k - m)) :
    m + Ideal.log s = lse f := by
  subst hm hs; rfl

/-- The log-sum-exp of each row of a matrix. -/
def rowLse (v : FVec Ideal S1280x1280 .f32) : FVec Ideal S1280 .f32 :=
  addf (multiReduction .maximumf [1] S1280 v 0xFF800000#32 reduces_S1280x1280_S1280 (.inl rfl) rfl)
    (log (multiReduction .add [1] S1280 (exp (subf v (broadcastTo S1280x1280 (shapeCast S1280x1
      (multiReduction .maximumf [1] S1280 v 0xFF800000#32 reduces_S1280x1280_S1280 (.inl rfl) rfl) shapeCasts_S1280_S1280x1)
      broadcasts_S1280x1_S1280x1280))) 0x00000000#32 reduces_S1280x1280_S1280 (.inl rfl) rfl))

/-- The log-sum-exp of each column of a matrix. -/
def colLse (v : FVec Ideal S1280x1280 .f32) : FVec Ideal S1280 .f32 :=
  addf (multiReduction .maximumf [0] S1280 v 0xFF800000#32 reduces_S1280x1280_S1280_2 (.inl rfl) rfl)
    (log (multiReduction .add [0] S1280 (exp (subf v (broadcastTo S1280x1280 (shapeCast S1x1280
      (multiReduction .maximumf [0] S1280 v 0xFF800000#32 reduces_S1280x1280_S1280_2 (.inl rfl) rfl) shapeCasts_S1280_S1x1280)
      broadcasts_S1x1280_S1280x1280))) 0x00000000#32 reduces_S1280x1280_S1280_2 (.inl rfl) rfl))

/-- `rowLse` is the log-sum-exp of each row. -/
theorem rowLse_apply (v : FVec Ideal S1280x1280 .f32) (i : Fin 1280) : rowLse v (ix1 i) = lse fun k => v (ix2 i k) := by
  have hm := row_max v i
  unfold rowLse
  generalize multiReduction .maximumf [1] S1280 v 0xFF800000#32 reduces_S1280x1280_S1280 (.inl rfl) rfl = m at hm ⊢
  rw [add_log, row_sum]
  refine lse_of _ _ _ hm ?_
  simp only [exp_sub_rows]

/-- `colLse` is the log-sum-exp of each column. -/
theorem colLse_apply (v : FVec Ideal S1280x1280 .f32) (j : Fin 1280) : colLse v (ix1 j) = lse fun k => v (ix2 k j) := by
  have hm := col_max v j
  unfold colLse
  generalize multiReduction .maximumf [0] S1280 v 0xFF800000#32 reduces_S1280x1280_S1280_2 (.inl rfl) rfl = m at hm ⊢
  rw [add_log, col_sum]
  refine lse_of _ _ _ hm ?_
  simp only [exp_sub_cols]

/-- The body's row step is `rowLse` of the logits. -/
theorem pay13_eq : k0_pay13 x0 x3 x4 x1 x2 = rowLse (k0_pay12 x0 x3 x4 x1 x2) := rfl

/-- The body's column step is `colLse` of the logits. -/
theorem pay14_eq : k0_pay14 x0 x3 x4 x1 x2 = colLse (k0_pay12 x0 x3 x4 x1 x2) := rfl

/-- The row log-sum-exps of the logits. -/
theorem lse_row (i : Fin 1280) : k0_pay13 x0 x3 x4 x1 x2 (ix1 i) = lse (logit x0 x1 x2 x3 x4 i) := by
  rw [pay13_eq, rowLse_apply, logit_eq]
  exact congrArg lse (funext fun k => rfl)

/-- The column log-sum-exps of the logits. -/
theorem lse_col (j : Fin 1280) : k0_pay14 x0 x3 x4 x1 x2 (ix1 j) = lse fun i => logit x0 x1 x2 x3 x4 i j := by
  rw [pay14_eq, colLse_apply, logit_eq]
  exact congrArg lse (funext fun k => rfl)

/-! ## The gradient with respect to the logits -/

/-- `2` where the comparison of the two indices says equal, else `0`. -/
theorem pos_apply (i j : Fin 1280) :
    select k0_pay15 (broadcast S1280x1280 (Scalar.ofBits (F := Ideal) .f32 0x40000000#32))
      (broadcast S1280x1280 (Scalar.ofBits (F := Ideal) .f32 0x00000000#32)) (ix2 i j) = pos i j := by
  pointwise [k0_pay15, pos]
  rw [select_eq _ _ (by omega) (by omega)]
  simp only [Fin.ext_iff]

/-- The entries of a matrix on the diagonal, `0` off it. -/
theorem diag_apply (v : FVec Ideal S1280x1280 .f32) (i j : Fin 1280) :
    select k0_pay15 v (broadcast S1280x1280 (Scalar.ofBits (F := Ideal) .f32 0x00000000#32)) (ix2 i j)
      = if j = i then v (ix2 i j) else 0 := by
  pointwise [k0_pay15]
  rw [select_eq _ _ (by omega) (by omega)]
  simp only [Fin.ext_iff]

/-- The gradient, from the logits and the two families of log-sum-exps. -/
theorem grad_apply (v : FVec Ideal S1280x1280 .f32) (r s : FVec Ideal S1280 .f32) (i j : Fin 1280) :
    k0_pay2 v r s k0_pay15 (ix2 i j)
      = (Ideal.exp (v (ix2 i j) - r (ix1 i)) + Ideal.exp (v (ix2 i j) - s (ix1 j)) - pos i j) * K1 := by
  rw [← exp_sub_rows, ← exp_sub_cols, ← pos_apply, ← inv_2n_eq]
  rfl

/-- The gradient with respect to the logits, at the arrays. -/
theorem grad_eq : k0_pay2 (k0_pay12 x0 x3 x4 x1 x2) (k0_pay13 x0 x3 x4 x1 x2) (k0_pay14 x0 x3 x4 x1 x2) k0_pay15
    = fun j => gradR (temp x0) (xscale x1) (yscale x2) (code x3) (code x4) (j 0) (j 1) * K1 := by
  funext j
  idx_vars j
  rw [grad_apply, lse_row, lse_col, logit_eq]
  rfl

/-! ## The four results -/

/-- A `5 × 256` array of row numbers, at an entry. -/
theorem rows_apply (v : FVec Ideal S1280 .f32) (y : S5x256.Idx) :
    shapeCast S5x256 v shapeCasts_S1280_S5x256 y = v (ix1 (gi (y 0) (y 1))) := by
  idx_vars y
  pointwise
  exact congrArg v (congrArg ix1 (Fin.ext (by show y0.val * 256 + y1.val = 256 * y0.val + y1.val; omega)))

/-- The positive logit of row `i`: the sum over the row of the entries masked to the diagonal. -/
theorem diag_sum (v : FVec Ideal S1280x1280 .f32) (i : Fin 1280) :
    multiReduction .add [1] S1280 (select k0_pay15 v (broadcast S1280x1280 (Scalar.ofBits (F := Ideal) .f32 0x00000000#32)))
      0x00000000#32 reduces_S1280x1280_S1280 (.inl rfl) rfl (ix1 i) = v (ix2 i i) := by
  rw [row_sum]
  simp only [diag_apply]
  rw [Finset.sum_ite_eq' Finset.univ i fun j => v (ix2 i j), if_pos (Finset.mem_univ i)]

/-- From the two log-sum-exps and the positive logit of a row to its loss, before the factor. -/
theorem loss_apply (r s d : FVec Ideal S1280 .f32) (i : Fin 1280) :
    addf (subf r d) (subf s d) (ix1 i) = (r (ix1 i) - d (ix1 i)) + (s (ix1 i) - d (ix1 i)) := rfl

/-- The matrix masked to the diagonal, summed along the rows. -/
def diagSum (v : FVec Ideal S1280x1280 .f32) : FVec Ideal S1280 .f32 :=
  multiReduction .add [1] S1280 (select k0_pay15 v (broadcast S1280x1280 (Scalar.ofBits (F := Ideal) .f32 0x00000000#32)))
      0x00000000#32 reduces_S1280x1280_S1280 (.inl rfl) rfl

/-- `diagSum` is the diagonal. -/
theorem diagSum_apply (v : FVec Ideal S1280x1280 .f32) (i : Fin 1280) : diagSum v (ix1 i) = v (ix2 i i) := diag_sum v i

/-- The body's loss step, from the two families of log-sum-exps and the positive logits. -/
theorem pay16_eq : k0_pay16 x0 x3 x4 x1 x2 = addf (subf (k0_pay13 x0 x3 x4 x1 x2) (diagSum (k0_pay12 x0 x3 x4 x1 x2)))
    (subf (k0_pay14 x0 x3 x4 x1 x2) (diagSum (k0_pay12 x0 x3 x4 x1 x2))) := rfl

/-- The body's last step of the loss: the factor, and the rows laid out. -/
theorem pay1_apply (v : FVec Ideal S1280 .f32) (y : S5x256.Idx) : k0_pay1 v y = v (ix1 (gi (y 0) (y 1))) * K1 := by
  rw [← inv_2n_eq]
  unfold k0_pay1
  rw [rows_apply]
  rfl

/-- The loss. -/
theorem loss_eq : k0_pay1 (k0_pay16 x0 x3 x4 x1 x2)
    = fun y => lossR (temp x0) (xscale x1) (yscale x2) (code x3) (code x4) (gi (y 0) (y 1)) := by
  funext y
  rw [pay1_apply]
  generalize gi (y 0) (y 1) = i
  rw [pay16_eq, loss_apply, diagSum_apply, lse_row, lse_col, logit_eq]
  rfl

/-- The rows of the gradient with respect to the logarithm of the temperature. -/
theorem dlt_eq : k0_pay3 (k0_pay12 x0 x3 x4 x1 x2) (k0_pay13 x0 x3 x4 x1 x2) (k0_pay14 x0 x3 x4 x1 x2) k0_pay15
    = fun y => dltR (temp x0) (xscale x1) (yscale x2) (code x3) (code x4) (gi (y 0) (y 1)) := by
  funext y
  unfold k0_pay3
  rw [rows_apply, grad_eq, logit_eq, row_sum]
  rfl

/-- The gradient with respect to the first operand's codes. -/
theorem dx_eq : k0_pay5 (k0_pay7 x0) (k0_pay9 x4) (k0_pay11 x2) (k0_pay12 x0 x3 x4 x1 x2) (k0_pay13 x0 x3 x4 x1 x2) (k0_pay14 x0 x3 x4 x1 x2) k0_pay15
    = fun y => dxR (temp x0) (xscale x1) (yscale x2) (code x3) (code x4) (y 0) (y 1) := by
  unfold k0_pay5 k0_pay4
  rw [grad_eq]
  funext y
  idx_vars y
  pointwise [k0_pay7, k0_pay9, k0_pay11, dxR, temp, yscale, code]

/-- The gradient with respect to the second operand's codes. -/
theorem dy_eq : k0_pay6 (k0_pay7 x0) (k0_pay8 x3) (k0_pay10 x1) (k0_pay12 x0 x3 x4 x1 x2) (k0_pay13 x0 x3 x4 x1 x2) (k0_pay14 x0 x3 x4 x1 x2) k0_pay15
    = fun y => dyR (temp x0) (xscale x1) (yscale x2) (code x3) (code x4) (y 0) (y 1) := by
  unfold k0_pay6 k0_pay4
  rw [grad_eq]
  funext y
  idx_vars y
  pointwise [k0_pay7, k0_pay8, k0_pay10, dyR, temp, xscale, code]

end Cert.ReferenceIdeal.Value
-- ==== Proof.RefArrays.lean ====
/- The reference's four result arrays after its run, as the mathematics of `Loss.lean` at its arguments. -/
module

public import proofs.«01_k».proof.Proof.Reference

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem
open Idealize.ShloMosaic.Pipeline (Dat Cfg Window)

/-! ## What the body leaves in each output buffer -/

section Buffers

variable (x0 : Vec Ideal S1x1 .f32) (x1 : Vec Ideal S1280x1 .f32) (x2 : Vec Ideal S1x1280 .f32)
  (x3 x4 : Vec Ideal S1280x2048 .fp8e4m3)

/-- Every access of the body starts at the origin. -/
theorem origin : (![0, 0] : Fin 2 → Nat) = fun _ => 0 := funext fun a => by fin_cases a <;> rfl

/-- Loading a whole buffer gives the buffer: the temperature's. -/
theorem ld0 : View.ld x0 r0_0 = x0 := View.ld_unit_zero (S := S1x1) origin _ _
/-- The same for the scales of the first operand. -/
theorem ld1 : View.ld x1 r0_2 = x1 := View.ld_unit_zero (S := S1280x1) origin _ _
/-- The same for the scales of the second operand. -/
theorem ld2 : View.ld x2 r0_3 = x2 := View.ld_unit_zero (S := S1x1280) origin _ _
/-- The same for codes. -/
theorem ldc (x : Vec Ideal S1280x2048 .fp8e4m3) : View.ld x r0_1 = x := View.ld_unit_zero (S := S1280x2048) origin _ _

/-- The output buffer of window 5 holds the losses. -/
theorem out5_eq : out0_5 x0 x1 x2 x3 x4
    = fun y => lossR (temp x0) (xscale x1) (yscale x2) (code x3) (code x4) (gi (y 0) (y 1)) := by
  unfold out0_5
  rw [View.canon_unit_zero (S := S5x256) origin]
  simp only [ld0, ld1, ld2, ldc]
  exact loss_eq x0 x1 x2 x3 x4

/-- The output buffer of window 6 holds the gradient with respect to the first operand's codes. -/
theorem out6_eq : out0_6 x0 x1 x2 x3 x4
    = fun y => dxR (temp x0) (xscale x1) (yscale x2) (code x3) (code x4) (y 0) (y 1) := by
  unfold out0_6 k0_pay17 k0_pay18 k0_pay19 k0_pay20 k0_pay21
  rw [View.canon_unit_zero (S := S1280x2048) origin]
  simp only [ld0, ld1, ld2, ldc]
  exact dx_eq x0 x1 x2 x3 x4

/-- The output buffer of window 7 holds the gradient with respect to the second operand's codes. -/
theorem out7_eq : out0_7 x0 x1 x2 x3 x4
    = fun y => dyR (temp x0) (xscale x1) (yscale x2) (code x3) (code x4) (y 0) (y 1) := by
  unfold out0_7 k0_pay17 k0_pay18 k0_pay19 k0_pay20 k0_pay21
  rw [View.canon_unit_zero (S := S1280x2048) origin]
  simp only [ld0, ld1, ld2, ldc]
  exact dy_eq x0 x1 x2 x3 x4

/-- The output buffer of window 8 holds the rows of the gradient with respect to the logarithm of the temperature. -/
theorem out8_eq : out0_8 x0 x1 x2 x3 x4
    = fun y => dltR (temp x0) (xscale x1) (yscale x2) (code x3) (code x4) (gi (y 0) (y 1)) := by
  unfold out0_8 k0_pay18 k0_pay19 k0_pay20 k0_pay21
  rw [View.canon_unit_zero (S := S5x256) origin]
  simp only [ld0, ld1, ld2, ldc]
  exact dlt_eq x0 x1 x2 x3 x4

end Buffers

/-! ## The arrays -/

variable (m : (ℓ : Loc nD τ sig) → Buf (Elt Ideal) ℓ)

/-- The one grid point. -/
def t₀ : Fin cfg0.N := ⟨0, by decide⟩

/-- The one block of input window 0 is its whole array: the temperature's logarithm. -/
theorem iblk0 (c : Dev nD) : iblk m c 0 t₀ = V m c main_v0 :=
  Memref.read_access_unit_zero (Elt Ideal) main_v0 (off := fun a => (win0_0.index t₀) a * main_v0.ty.shape.size a)
    (funext fun a => by fin_cases a <;> decide) (fun a => by fin_cases a <;> decide) _

/-- The one block of input window 1 is its whole array: the scales of the first operand. -/
theorem iblk1 (c : Dev nD) : iblk m c 1 t₀ = V m c main_v1 :=
  Memref.read_access_unit_zero (Elt Ideal) main_v1 (off := fun a => (win0_1.index t₀) a * main_v1.ty.shape.size a)
    (funext fun a => by fin_cases a <;> decide) (fun a => by fin_cases a <;> decide) _

/-- The one block of input window 2 is its whole array: the scales of the second operand. -/
theorem iblk2 (c : Dev nD) : iblk m c 2 t₀ = V m c main_v2 :=
  Memref.read_access_unit_zero (Elt Ideal) main_v2 (off := fun a => (win0_2.index t₀) a * main_v2.ty.shape.size a)
    (funext fun a => by fin_cases a <;> decide) (fun a => by fin_cases a <;> decide) _

/-- The one block of input window 3 is its whole array: the codes of the first operand. -/
theorem iblk3 (c : Dev nD) : iblk m c 3 t₀ = V m c main_v3 :=
  Memref.read_access_unit_zero (Elt Ideal) main_v3 (off := fun a => (win0_3.index t₀) a * main_v3.ty.shape.size a)
    (funext fun a => by fin_cases a <;> decide) (fun a => by fin_cases a <;> decide) _

/-- The one block of input window 4 is its whole array: the codes of the second operand. -/
theorem iblk4 (c : Dev nD) : iblk m c 4 t₀ = V m c main_v4 :=
  Memref.read_access_unit_zero (Elt Ideal) main_v4 (off := fun a => (win0_4.index t₀) a * main_v4.ty.shape.size a)
    (funext fun a => by fin_cases a <;> decide) (fun a => by fin_cases a <;> decide) _

/-- The array of output window 5 after the run is what the body left in the window's buffer. -/
theorem arr5 (c : Dev nD) : (dats m 0 c).arrAt 5 cfg0.N = out0_5 (iblk m c 0 t₀) (iblk m c 1 t₀) (iblk m c 2 t₀) (iblk m c 3 t₀) (iblk m c 4 t₀) := by
  have h := (blocks5 m c t₀ (flush0_5 t₀)).trans (flushed5 m c t₀)
  have hz : (fun a => (win0_5.index t₀) a * main_v5_0.ty.shape.size a) = fun _ => 0 := funext fun a => by fin_cases a <;> decide
  have hr := fun f => Memref.read_access_unit_zero (Elt Ideal) main_v5_0 hz (fun a => by fin_cases a <;> decide) f
  rw [hr] at h
  exact h

/-- The array of output window 6 after the run is what the body left in the window's buffer. -/
theorem arr6 (c : Dev nD) : (dats m 0 c).arrAt 6 cfg0.N = out0_6 (iblk m c 0 t₀) (iblk m c 1 t₀) (iblk m c 2 t₀) (iblk m c 3 t₀) (iblk m c 4 t₀) := by
  have h := (blocks6 m c t₀ (flush0_6 t₀)).trans (flushed6 m c t₀)
  have hz : (fun a => (win0_6.index t₀) a * main_v5_1.ty.shape.size a) = fun _ => 0 := funext fun a => by fin_cases a <;> decide
  have hr := fun f => Memref.read_access_unit_zero (Elt Ideal) main_v5_1 hz (fun a => by fin_cases a <;> decide) f
  rw [hr] at h
  exact h

/-- The array of output window 7 after the run is what the body left in the window's buffer. -/
theorem arr7 (c : Dev nD) : (dats m 0 c).arrAt 7 cfg0.N = out0_7 (iblk m c 0 t₀) (iblk m c 1 t₀) (iblk m c 2 t₀) (iblk m c 3 t₀) (iblk m c 4 t₀) := by
  have h := (blocks7 m c t₀ (flush0_7 t₀)).trans (flushed7 m c t₀)
  have hz : (fun a => (win0_7.index t₀) a * main_v5_2.ty.shape.size a) = fun _ => 0 := funext fun a => by fin_cases a <;> decide
  have hr := fun f => Memref.read_access_unit_zero (Elt Ideal) main_v5_2 hz (fun a => by fin_cases a <;> decide) f
  rw [hr] at h
  exact h

/-- The array of output window 8 after the run is what the body left in the window's buffer. -/
theorem arr8 (c : Dev nD) : (dats m 0 c).arrAt 8 cfg0.N = out0_8 (iblk m c 0 t₀) (iblk m c 1 t₀) (iblk m c 2 t₀) (iblk m c 3 t₀) (iblk m c 4 t₀) := by
  have h := (blocks8 m c t₀ (flush0_8 t₀)).trans (flushed8 m c t₀)
  have hz : (fun a => (win0_8.index t₀) a * main_v5_3.ty.shape.size a) = fun _ => 0 := funext fun a => by fin_cases a <;> decide
  have hr := fun f => Memref.read_access_unit_zero (Elt Ideal) main_v5_3 hz (fun a => by fin_cases a <;> decide) f
  rw [hr] at h
  exact h

/-! ## The reshapes of the arguments before the body -/

/-- The body's temperature array is the last argument, laid out as `1 × 1`. -/
theorem V_main_v0 (c : Dev nD) : V m c main_v0 = shapeCast S1x1 (m ((c : Thread nD τ).loc main_arg4)) shapeCasts_S_S1x1 := by
  simp only [V, hostOps0, StableHlo.after_cons, StableHlo.after_nil]
  rfl

/-- The first operand's scales, laid out as a column. -/
theorem V_main_v1 (c : Dev nD) : V m c main_v1 = shapeCast S1280x1 (m ((c : Thread nD τ).loc main_arg1)) shapeCasts_S5x256_S1280x1 := by
  simp only [V, hostOps0, StableHlo.after_cons, StableHlo.after_nil]
  rfl

/-- The second operand's scales, laid out as a row. -/
theorem V_main_v2 (c : Dev nD) : V m c main_v2 = shapeCast S1x1280 (m ((c : Thread nD τ).loc main_arg3)) shapeCasts_S5x256_S1x1280 := by
  simp only [V, hostOps0, StableHlo.after_cons, StableHlo.after_nil]
  rfl

/-- The first operand's codes, row after row. -/
theorem V_main_v3 (c : Dev nD) : V m c main_v3 = shapeCast S1280x2048 (m ((c : Thread nD τ).loc main_arg0)) shapeCasts_S5x256x2048_S1280x2048 := by
  simp only [V, hostOps0, StableHlo.after_cons, StableHlo.after_nil]
  rfl

/-- The second operand's codes, row after row. -/
theorem V_main_v4 (c : Dev nD) : V m c main_v4 = shapeCast S1280x2048 (m ((c : Thread nD τ).loc main_arg2)) shapeCasts_S5x256x2048_S1280x2048 := by
  simp only [V, hostOps0, StableHlo.after_cons, StableHlo.after_nil]
  rfl

/-- The temperature, of the arguments as launched. -/
def T (c : Dev nD) : EReal := Ideal.exp (m ((c : Thread nD τ).loc main_arg4) ix0)
/-- The scales of the first operand. -/
def xs (c : Dev nD) : Fin 1280 → EReal := flat fun b r => m ((c : Thread nD τ).loc main_arg1) (ix2 b r)
/-- The scales of the second operand. -/
def ys (c : Dev nD) : Fin 1280 → EReal := flat fun b r => m ((c : Thread nD τ).loc main_arg3) (ix2 b r)
/-- The codes of the first operand. -/
def X (c : Dev nD) : Fin 1280 → Fin 2048 → EReal := flat fun b r k => m ((c : Thread nD τ).loc main_arg0) (ix3 b r k)
/-- The codes of the second operand. -/
def Y (c : Dev nD) : Fin 1280 → Fin 2048 → EReal := flat fun b r k => m ((c : Thread nD τ).loc main_arg2) (ix3 b r k)

/-- The `1 × 1` array of a number has that number. -/
theorem temp_cast (a : Vec Ideal S_ .f32) : temp (shapeCast S1x1 a shapeCasts_S_S1x1) = Ideal.exp (a ix0) := by
  unfold temp
  exact congrArg (fun i => Ideal.exp (a i)) (funext fun k => k.elim0)

/-- A column of scales, read row by row. -/
theorem xscale_cast (a : Vec Ideal S5x256 .f32) :
    xscale (shapeCast S1280x1 a shapeCasts_S5x256_S1280x1) = flat fun b r => a (ix2 b r) := by
  funext i
  unfold xscale flat
  pointwise

/-- A row of scales, read entry by entry. -/
theorem yscale_cast (a : Vec Ideal S5x256 .f32) :
    yscale (shapeCast S1x1280 a shapeCasts_S5x256_S1x1280) = flat fun b r => a (ix2 b r) := by
  funext i
  unfold yscale flat
  pointwise

/-- The codes, read row by row. -/
theorem code_cast (a : Vec Ideal S5x256x2048 .fp8e4m3) :
    code (shapeCast S1280x2048 a shapeCasts_S5x256x2048_S1280x2048) = flat fun b r k => a (ix3 b r k) := by
  funext i k
  unfold code flat
  pointwise

/-! ## The results -/

/-- The losses, of the arguments as launched. -/
theorem final5 (c : Dev nD) : (dats m 0 c).arrAt 5 cfg0.N
    = fun y => lossR (T m c) (xs m c) (ys m c) (X m c) (Y m c) (gi (y 0) (y 1)) := by
  rw [arr5, out5_eq, iblk0, iblk1, iblk2, iblk3, iblk4, V_main_v0, V_main_v1, V_main_v2, V_main_v3, V_main_v4,
    temp_cast, xscale_cast, yscale_cast, code_cast, code_cast]
  rfl

/-- The gradient with respect to the first operand's codes, of the arguments as launched. -/
theorem final6 (c : Dev nD) : (dats m 0 c).arrAt 6 cfg0.N
    = fun y => dxR (T m c) (xs m c) (ys m c) (X m c) (Y m c) (y 0) (y 1) := by
  rw [arr6, out6_eq, iblk0, iblk1, iblk2, iblk3, iblk4, V_main_v0, V_main_v1, V_main_v2, V_main_v3, V_main_v4,
    temp_cast, xscale_cast, yscale_cast, code_cast, code_cast]
  rfl

/-- The gradient with respect to the second operand's codes, of the arguments as launched. -/
theorem final7 (c : Dev nD) : (dats m 0 c).arrAt 7 cfg0.N
    = fun y => dyR (T m c) (xs m c) (ys m c) (X m c) (Y m c) (y 0) (y 1) := by
  rw [arr7, out7_eq, iblk0, iblk1, iblk2, iblk3, iblk4, V_main_v0, V_main_v1, V_main_v2, V_main_v3, V_main_v4,
    temp_cast, xscale_cast, yscale_cast, code_cast, code_cast]
  rfl

/-- The rows of the gradient with respect to the logarithm of the temperature, of the arguments as launched. -/
theorem final8 (c : Dev nD) : (dats m 0 c).arrAt 8 cfg0.N
    = fun y => dltR (T m c) (xs m c) (ys m c) (X m c) (Y m c) (gi (y 0) (y 1)) := by
  rw [arr8, out8_eq, iblk0, iblk1, iblk2, iblk3, iblk4, V_main_v0, V_main_v1, V_main_v2, V_main_v3, V_main_v4,
    temp_cast, xscale_cast, yscale_cast, code_cast, code_cast]
  rfl

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- Each named constant of the ideal kernel is the word that the kernel has in its place. -/
theorem preserves : Cert.preserves_Kernel_KernelIdeal :=
  ⟨Idealize.ShloMosaic.IdealRules.named_const.statement _ _ _ _ _ rfl,
   Idealize.ShloMosaic.IdealRules.named_const.statement _ _ _ _ _ rfl,
   Idealize.ShloMosaic.IdealRules.named_const.statement _ _ _ _ _ rfl⟩

/-- Started from the same arguments, the kernel and the reference end with the same four results: the losses, the gradients
    with respect to both operands' codes, and the rows of the gradient with respect to the logarithm of the temperature. -/
theorem algebraic : Cert.algebraic_KernelIdeal_ReferenceIdeal (hKernelIdeal := Cert.KernelIdeal.Gen.facts)
    (hReferenceIdeal := Cert.ReferenceIdeal.Gen.facts) := by
  intro m g m' g' _ hargs
  have hT (c) : Cert.ReferenceIdeal.Value.T m' c = Cert.KernelIdeal.Value.T m c :=
    congrArg (fun a : Vec Ideal S_ .f32 => Ideal.exp (a ValueIdx.ix0)) (hargs c).2.2.2.2
  have hxs (c) : Cert.ReferenceIdeal.Value.xs m' c = Cert.KernelIdeal.Value.xs m c :=
    congrArg (fun a : Vec Ideal S5x256 .f32 => Cert.Math.flat fun b r => a (ValueIdx.ix2 b r)) (hargs c).2.1
  have hys (c) : Cert.ReferenceIdeal.Value.ys m' c = Cert.KernelIdeal.Value.ys m c :=
    congrArg (fun a : Vec Ideal S5x256 .f32 => Cert.Math.flat fun b r => a (ValueIdx.ix2 b r)) (hargs c).2.2.2.1
  have hX (c) : Cert.ReferenceIdeal.Value.X m' c = Cert.KernelIdeal.Value.X m c :=
    congrArg (fun a : Vec Ideal S5x256x2048 .fp8e4m3 => Cert.Math.flat fun b r k => a (ValueIdx.ix3 b r k)) (hargs c).1
  have hY (c) : Cert.ReferenceIdeal.Value.Y m' c = Cert.KernelIdeal.Value.Y m c :=
    congrArg (fun a : Vec Ideal S5x256x2048 .fp8e4m3 => Cert.Math.flat fun b r k => a (ValueIdx.ix3 b r k)) (hargs c).2.2.1
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g,
    (θ_run _ _ _).mono (fun r h c => ?_) (Cert.ReferenceIdeal.Value.run_blocks m' g')⟩
  have h5 := Cert.ReferenceIdeal.Value.final5 m' c
  have h6 := Cert.ReferenceIdeal.Value.final6 m' c
  have h7 := Cert.ReferenceIdeal.Value.final7 m' c
  have h8 := Cert.ReferenceIdeal.Value.final8 m' c
  rw [hT, hxs, hys, hX, hY] at h5 h6 h7 h8
  exact ⟨((h c).1.trans h5).trans (Cert.KernelIdeal.Value.final5 m c).symm,
    ((h c).2.1.trans h6).trans (Cert.KernelIdeal.Value.final6 m c).symm,
    ((h c).2.2.1.trans h7).trans (Cert.KernelIdeal.Value.final7 m c).symm,
    ((h c).2.2.2.1.trans h8).trans (Cert.KernelIdeal.Value.final8 m c).symm, (h c).2.2.2.2⟩

/-- Everything that the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, preserves, algebraic⟩

end Cert.Proof

end
